-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x4096 : Shape := ⟨3, ![2, 4096, 4096]⟩
abbrev S4096 : Shape := ⟨1, ![4096]⟩
abbrev S12288x4096 : Shape := ⟨2, ![12288, 4096]⟩
abbrev S12288 : Shape := ⟨1, ![12288]⟩
abbrev S8192x4096 : Shape := ⟨2, ![8192, 4096]⟩
abbrev S1x4096 : Shape := ⟨2, ![1, 4096]⟩
abbrev S8192x1 : Shape := ⟨2, ![8192, 1]⟩
abbrev S128x4096 : Shape := ⟨2, ![128, 4096]⟩
abbrev S128x1 : Shape := ⟨2, ![128, 1]⟩
abbrev S128 : Shape := ⟨1, ![128]⟩
abbrev S1x12288 : Shape := ⟨2, ![1, 12288]⟩
abbrev S8192x12288 : Shape := ⟨2, ![8192, 12288]⟩
abbrev S1024x4096 : Shape := ⟨2, ![1024, 4096]⟩
abbrev S1024x1 : Shape := ⟨2, ![1024, 1]⟩
abbrev S1x1024 : Shape := ⟨2, ![1, 1024]⟩
abbrev S1024x1024 : Shape := ⟨2, ![1024, 1024]⟩
abbrev S2x4096x12288 : Shape := ⟨3, ![2, 4096, 12288]⟩
abbrev S2x4096x1 : Shape := ⟨3, ![2, 4096, 1]⟩

abbrev nBuf : Space → Nat
  | .hbm => 17
  | .vmem => 21
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S12288x4096, .fp8e4m3⟩
  | .hbm, ⟨4, _⟩ => ⟨S12288, .f32⟩
  | .hbm, ⟨5, _⟩ => ⟨S8192x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .fp8e4m3⟩
  | .hbm, ⟨10, _⟩ => ⟨S8192x1, .f32⟩
  | .hbm, ⟨11, _⟩ => ⟨S1x12288, .f32⟩
  | .hbm, ⟨12, _⟩ => ⟨S8192x12288, .f32⟩
  | .hbm, ⟨13, _⟩ => ⟨S2x4096x12288, .f32⟩
  | .hbm, ⟨14, _⟩ => ⟨S2x4096x4096, .f32⟩
  | .hbm, ⟨15, _⟩ => ⟨S2x4096x4096, .fp8e4m3⟩
  | .hbm, ⟨16, _⟩ => ⟨S2x4096x1, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .fp8e4m3⟩
  | .local _ .vmem, ⟨8, _⟩ => ⟨S128x4096, .fp8e4m3⟩
  | .local _ .vmem, ⟨9, _⟩ => ⟨S128x1, .f32⟩
  | .local _ .vmem, ⟨10, _⟩ => ⟨S128x1, .f32⟩
  | .local _ .vmem, ⟨11, _⟩ => ⟨S1024x4096, .fp8e4m3⟩
  | .local _ .vmem, ⟨12, _⟩ => ⟨S1024x4096, .fp8e4m3⟩
  | .local _ .vmem, ⟨13, _⟩ => ⟨S1024x4096, .fp8e4m3⟩
  | .local _ .vmem, ⟨14, _⟩ => ⟨S1024x4096, .fp8e4m3⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S2x4096x4096 : Shape := ⟨3, ![2, 4096, 4096]⟩
abbrev S4096 : Shape := ⟨1, ![4096]⟩
abbrev S12288x4096 : Shape := ⟨2, ![12288, 4096]⟩
abbrev S12288 : Shape := ⟨1, ![12288]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x4096x254 : Shape := ⟨3, ![2, 4096, 254]⟩
abbrev S2x4096x12288 : Shape := ⟨3, ![2, 4096, 12288]⟩
abbrev S1x1x12288 : Shape := ⟨3, ![1, 1, 12288]⟩

abbrev nBuf : Space → Nat
  | .hbm => 103
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S12288x4096, .fp8e4m3⟩
  | .hbm, ⟨4, _⟩ => ⟨S12288, .f32⟩
  | .hbm, ⟨5, _⟩ => ⟨S2x4096x4096, .f32⟩
  | .hbm, ⟨6, _⟩ => ⟨S2x4096x4096, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x4096, .f32⟩
  | .hbm, ⟨18, _⟩ => ⟨S2x4096x4096, .f32⟩
  | .hbm, ⟨19, _⟩ => ⟨S1x1x4096, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x254, .f32⟩
  | .hbm, ⟨30, _⟩ => ⟨S_, .f32⟩
  | .hbm, ⟨31, _⟩ => ⟨S2x4096x254, .f32⟩
  | .hbm, ⟨32, _⟩ => ⟨S2x4096x254, .f32⟩
  | .hbm, ⟨33, _⟩ => ⟨S2x4096x254, .f32⟩
  | .hbm, ⟨34, _⟩ => ⟨S_, .f32⟩
  | .hbm, ⟨35, _⟩ => ⟨S2x4096x254, .f32⟩
  | .hbm, ⟨36, _⟩ => ⟨S2x4096x254, .f32⟩
  | .hbm, ⟨37, _⟩ => ⟨S2x4096x254, .i1⟩
  | .hbm, ⟨38, _⟩ => ⟨S_, .f32⟩
  | .hbm, ⟨39, _⟩ => ⟨S2x4096x254, .f32⟩
  | .hbm, ⟨40, _⟩ => ⟨S2x4096x254, .f32⟩
  | .hbm, ⟨41, _⟩ => ⟨S_, .f32⟩
  | .hbm, ⟨42, _⟩ => ⟨S2x4096, .f32⟩
  | .hbm, ⟨43, _⟩ => ⟨S2x4096x1, .f32⟩
  | .hbm, ⟨44, _⟩ => ⟨S_, .f32⟩
  | .hbm, ⟨45, _⟩ => ⟨S2x4096x1, .f32⟩
  | .hbm, ⟨46, _⟩ => ⟨S2x4096x1, .i1⟩
  | .hbm, ⟨47, _⟩ => ⟨S_, .f32⟩
  | .hbm, ⟨48, _⟩ => ⟨S2x4096x1, .f32⟩
  | .hbm, ⟨49, _⟩ => ⟨S2x4096x1, .i1⟩
  | .hbm, ⟨50, _⟩ => ⟨S2x4096x1, .i1⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .i1⟩
  | .hbm, ⟨57, _⟩ => ⟨S_, .f32⟩
  | .hbm, ⟨58, _⟩ => ⟨S2x4096x1, .f32⟩
  | .hbm, ⟨59, _⟩ => ⟨S2x4096x1, .f32⟩
  | .hbm, ⟨60, _⟩ => ⟨S_, .f32⟩
  | .hbm, ⟨61, _⟩ => ⟨S2x4096x1, .f32⟩
  | .hbm, ⟨62, _⟩ => ⟨S2x4096x1, .i1⟩
  | .hbm, ⟨63, _⟩ => ⟨S_, .f32⟩
  | .hbm, ⟨64, _⟩ => ⟨S2x4096x1, .f32⟩
  | .hbm, ⟨65, _⟩ => ⟨S_, .f32⟩
  | .hbm, ⟨66, _⟩ => ⟨S2x4096x1, .f32⟩
  | .hbm, ⟨67, _⟩ => ⟨S2x4096x1, .i1⟩
  | .hbm, ⟨68, _⟩ => ⟨S_, .f32⟩
  | .hbm, ⟨69, _⟩ => ⟨S2x4096x1, .f32⟩
  | .hbm, ⟨70, _⟩ => ⟨S_, .f32⟩
  | .hbm, ⟨71, _⟩ => ⟨S2x4096x1, .f32⟩
  | .hbm, ⟨72, _⟩ => ⟨S2x4096x1, .f32⟩
  | .hbm, ⟨73, _⟩ => ⟨S2x4096x1, .f32⟩
  | .hbm, ⟨74, _⟩ => ⟨S2x4096x1, .f32⟩
  | .hbm, ⟨75, _⟩ => ⟨S2x4096x1, .f32⟩
  | .hbm, ⟨76, _⟩ => ⟨S_, .f32⟩
  | .hbm, ⟨77, _⟩ => ⟨S2x4096x1, .f32⟩
  | .hbm, ⟨78, _⟩ => ⟨S2x4096x1, .i1⟩
  | .hbm, ⟨79, _⟩ => ⟨S_, .f32⟩
  | .hbm, ⟨80, _⟩ => ⟨S2x4096x1, .f32⟩
  | .hbm, ⟨81, _⟩ => ⟨S_, .f32⟩
  | .hbm, ⟨82, _⟩ => ⟨S2x4096x1, .f32⟩
  | .hbm, ⟨83, _⟩ => ⟨S2x4096x1, .i1⟩
  | .hbm, ⟨84, _⟩ => ⟨S_, .f32⟩
  | .hbm, ⟨85, _⟩ => ⟨S2x4096x1, .f32⟩
  | .hbm, ⟨86, _⟩ => ⟨S_, .f32⟩
  | .hbm, ⟨87, _⟩ => ⟨S2x4096x1, .f32⟩
  | .hbm, ⟨88, _⟩ => ⟨S2x4096x1, .f32⟩
  | .hbm, ⟨89, _⟩ => ⟨S2x4096x1, .f32⟩
  | .hbm, ⟨90, _⟩ => ⟨S2x4096x1, .f32⟩
  | .hbm, ⟨91, _⟩ => ⟨S2x4096x4096, .f32⟩
  | .hbm, ⟨92, _⟩ => ⟨S2x4096x4096, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S2x4096x4096, .f32⟩
  | .hbm, ⟨97, _⟩ => ⟨S2x4096x4096, .f32⟩
  | .hbm, ⟨98, _⟩ => ⟨S_, .f32⟩
  | .hbm, ⟨99, _⟩ => ⟨S2x4096x4096, .f32⟩
  | .hbm, ⟨100, _⟩ => ⟨S2x4096x4096, .f32⟩
  | .hbm, ⟨101, _⟩ => ⟨S2x4096x4096, .fp8e4m3⟩
  | .hbm, ⟨102, _⟩ => ⟨S2x4096x12288, .f32⟩
  | .local _ .vmem, ⟨0, _⟩ => ⟨S2x4096x4096, .fp8e4m3⟩
  | .local _ .vmem, ⟨1, _⟩ => ⟨S12288x4096, .fp8e4m3⟩
  | .local _ .vmem, ⟨2, _⟩ => ⟨S2x4096x1, .f32⟩
  | .local _ .vmem, ⟨3, _⟩ => ⟨S12288, .f32⟩
  | .local _ .vmem, ⟨4, _⟩ => ⟨S2x4096x12288, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_cst_15 : Ref sig .tc := ⟨.hbm, 65, rfl⟩
abbrev main_v44 : Ref sig .tc := ⟨.hbm, 66, rfl⟩
abbrev main_v45 : Ref sig .tc := ⟨.hbm, 67, rfl⟩
abbrev main_cst_16 : Ref sig .tc := ⟨.hbm, 68, rfl⟩
abbrev main_v46 : Ref sig .tc := ⟨.hbm, 69, rfl⟩
abbrev main_cst_17 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_18 : Ref sig .tc := ⟨.hbm, 76, rfl⟩
abbrev main_v52 : Ref sig .tc := ⟨.hbm, 77, rfl⟩
abbrev main_v53 : Ref sig .tc := ⟨.hbm, 78, rfl⟩
abbrev main_cst_19 : Ref sig .tc := ⟨.hbm, 79, rfl⟩
abbrev main_v54 : Ref sig .tc := ⟨.hbm, 80, rfl⟩
abbrev main_cst_20 : Ref sig .tc := ⟨.hbm, 81, rfl⟩
abbrev main_v55 : Ref sig .tc := ⟨.hbm, 82, rfl⟩
abbrev main_v56 : Ref sig .tc := ⟨.hbm, 83, rfl⟩
abbrev main_cst_21 : Ref sig .tc := ⟨.hbm, 84, rfl⟩
abbrev main_v57 : Ref sig .tc := ⟨.hbm, 85, rfl⟩
abbrev main_cst_22 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_23 : Ref sig .tc := ⟨.hbm, 93, rfl⟩
abbrev main_cst_24 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.lean ====
/-
  What a run of the kernel's program leaves in its four result arrays: the contents at the last
  segment boundary (`W5`), the argument arrays unchanged. The launch is the one the frame
  certificate makes; only the statement read off the last boundary is longer.
-/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of @main terminates without a fault, with the four
    results at the last boundary's contents and the arguments as launched. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6) ∧
      r.2.mem ((c.tc : Thread nD τ).loc main_v7) = W5 m ρ c (Proc.devRef .tc main_v7) ∧
      r.2.mem ((c.tc : Thread nD τ).loc main_v8) = W5 m ρ c (Proc.devRef .tc main_v8) ∧
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v6 (by decide)),
       h c _ (mem_uc main_v7 (by decide)),
       h c _ (mem_uc main_v8 (by decide)),
       h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.Layout.lean ====
/-
  The layout operations both programs use, read at an index: a vector as a column or a row, a column or a row
  broadcast over a matrix, and the two leading axes of a three-axis array merged or split.
-/
module

public import Idealize.ShloMosaic.Lib.Pipeline.Value
public import Idealize.ShloMosaic.Lib.ValueIdx
public import Idealize.ShloMosaic.Lib.IdealHost

@[expose] public section

noncomputable section

namespace Cert.Layout

open Idealize.ShloMosaic Idealize.ShloMosaic.ValueIdx

variable {α : Type}

/-- A vector cast to a column reads its own entry. -/
theorem cast_col {n : ℕ} (v : (⟨1, ![n]⟩ : Shape).Idx → α) (h : (⟨1, ![n]⟩ : Shape).ShapeCasts ⟨2, ![n, 1]⟩) (i : Fin n) (z : Fin 1) :
    shapeCast ⟨2, ![n, 1]⟩ v h (ix2 i z) = v (ix1 i) := by
  refine shapeCast_apply v h _ _ ?_
  rw [Shape.rowMajor_val_one, Shape.rowMajor_val_two]
  have hz : z.val = 0 := by omega
  show i.val = i.val * 1 + z.val
  omega

/-- A vector cast to a row reads its own entry. -/
theorem cast_row {n : ℕ} (v : (⟨1, ![n]⟩ : Shape).Idx → α) (h : (⟨1, ![n]⟩ : Shape).ShapeCasts ⟨2, ![1, n]⟩) (z : Fin 1) (i : Fin n) :
    shapeCast ⟨2, ![1, n]⟩ v h (ix2 z i) = v (ix1 i) := by
  refine shapeCast_apply v h _ _ ?_
  rw [Shape.rowMajor_val_one, Shape.rowMajor_val_two]
  have hz : z.val = 0 := by omega
  show i.val = z.val * n + i.val
  rw [hz]; omega

/-- A vector cast to three axes, the first two of length one. -/
theorem cast_row3 {n : ℕ} (v : (⟨1, ![n]⟩ : Shape).Idx → α) (h : (⟨1, ![n]⟩ : Shape).ShapeCasts ⟨3, ![1, 1, n]⟩) (z z' : Fin 1) (i : Fin n) :
    shapeCast ⟨3, ![1, 1, n]⟩ v h (ix3 z z' i) = v (ix1 i) := by
  refine shapeCast_apply v h _ _ ?_
  rw [Shape.rowMajor_val_one, Shape.rowMajor_val_three]
  have hz : z.val = 0 := by omega
  have hz' : z'.val = 0 := by omega
  show i.val = (z.val * 1 + z'.val) * n + i.val
  rw [hz, hz']; simp

/-- A column broadcast over a matrix reads the row's entry. -/
theorem bcast_col {n k : ℕ} (x : (⟨2, ![n, 1]⟩ : Shape).Idx → α) (h : (⟨2, ![n, 1]⟩ : Shape).Broadcasts ⟨2, ![n, k]⟩) (i : Fin n) (j : Fin k) :
    broadcastTo ⟨2, ![n, k]⟩ x h (ix2 i j) = x (ix2 i 0) := by
  refine broadcastTo_apply x h _ _ fun a => ?_
  match a with
  | ⟨0, _⟩ =>
    show i.val = if n = 1 then 0 else i.val
    have := i.isLt
    split <;> omega
  | ⟨1, _⟩ => rfl

/-- A row broadcast over a matrix reads the column's entry. -/
theorem bcast_row {n k : ℕ} (x : (⟨2, ![1, k]⟩ : Shape).Idx → α) (h : (⟨2, ![1, k]⟩ : Shape).Broadcasts ⟨2, ![n, k]⟩) (i : Fin n) (j : Fin k) :
    broadcastTo ⟨2, ![n, k]⟩ x h (ix2 i j) = x (ix2 0 j) := by
  refine broadcastTo_apply x h _ _ fun a => ?_
  match a with
  | ⟨0, _⟩ => rfl
  | ⟨1, _⟩ =>
    show j.val = if k = 1 then 0 else j.val
    have := j.isLt
    split <;> omega

/-- Three axes broadcast along the last one of length one. -/
theorem bcast_last3 {a n k : ℕ} (x : (⟨3, ![a, n, 1]⟩ : Shape).Idx → α) (h : (⟨3, ![a, n, 1]⟩ : Shape).Broadcasts ⟨3, ![a, n, k]⟩) (p : Fin a) (i : Fin n) (j : Fin k) :
    broadcastTo ⟨3, ![a, n, k]⟩ x h (ix3 p i j) = x (ix3 p i 0) := by
  refine broadcastTo_apply x h _ _ fun b => ?_
  match b with
  | ⟨0, _⟩ =>
    show p.val = if a = 1 then 0 else p.val
    have := p.isLt
    split <;> omega
  | ⟨1, _⟩ =>
    show i.val = if n = 1 then 0 else i.val
    have := i.isLt
    split <;> omega
  | ⟨2, _⟩ => rfl

/-- Three axes, the first two of length one, broadcast along those. -/
theorem bcast_lead3 {a n k : ℕ} (x : (⟨3, ![1, 1, k]⟩ : Shape).Idx → α) (h : (⟨3, ![1, 1, k]⟩ : Shape).Broadcasts ⟨3, ![a, n, k]⟩) (p : Fin a) (i : Fin n) (j : Fin k) :
    broadcastTo ⟨3, ![a, n, k]⟩ x h (ix3 p i j) = x (ix3 0 0 j) := by
  refine broadcastTo_apply x h _ _ fun b => ?_
  match b with
  | ⟨0, _⟩ => rfl
  | ⟨1, _⟩ => rfl
  | ⟨2, _⟩ =>
    show j.val = if k = 1 then 0 else j.val
    have := j.isLt
    split <;> omega

/-- Row `b * 4096 + s` of the merged array. -/
def merged (b : Fin 2) (s : Fin 4096) : Fin 8192 := ⟨b.val * 4096 + s.val, by omega⟩

/-- The two leading axes merged: row `b * 4096 + s` is row `(b, s)`. -/
theorem cast_merge {K : ℕ} (x : (⟨3, ![2, 4096, K]⟩ : Shape).Idx → α) (h : (⟨3, ![2, 4096, K]⟩ : Shape).ShapeCasts ⟨2, ![8192, K]⟩)
    (b : Fin 2) (s : Fin 4096) (k : Fin K) :
    shapeCast ⟨2, ![8192, K]⟩ x h (ix2 (merged b s) k) = x (ix3 b s k) := by
  refine shapeCast_apply x h _ _ ?_
  rw [Shape.rowMajor_val_three, Shape.rowMajor_val_two]
  show (b.val * 4096 + s.val) * K + k.val = (b.val * 4096 + s.val) * K + k.val
  rfl

/-- The leading axis split: row `(b, s)` is row `b * 4096 + s`. -/
theorem cast_split {K : ℕ} (x : (⟨2, ![8192, K]⟩ : Shape).Idx → α) (h : (⟨2, ![8192, K]⟩ : Shape).ShapeCasts ⟨3, ![2, 4096, K]⟩)
    (b : Fin 2) (s : Fin 4096) (k : Fin K) :
    shapeCast ⟨3, ![2, 4096, K]⟩ x h (ix3 b s k) = x (ix2 (merged b s) k) := by
  refine shapeCast_apply x h _ _ ?_
  rw [Shape.rowMajor_val_three, Shape.rowMajor_val_two]
  show (b.val * 4096 + s.val) * K + k.val = (b.val * 4096 + s.val) * K + k.val
  rfl

/-- A host broadcast of a matrix to three axes, the last of length one. -/
theorem hbcast_addLast {a n : ℕ} (x : (⟨2, ![a, n]⟩ : Shape).Idx → α) (h : (⟨2, ![a, n]⟩ : Shape).BroadcastsInDim ⟨3, ![a, n, 1]⟩ ![0, 1])
    (p : Fin a) (i : Fin n) (z : Fin 1) : broadcastInDim ⟨3, ![a, n, 1]⟩ ![0, 1] h x (ix3 p i z) = x (ix2 p i) := by
  refine broadcastInDim_apply _ h x _ _ fun b => ?_
  match b with
  | ⟨0, _⟩ =>
    show p.val = if a = 1 then 0 else p.val
    have := p.isLt
    split <;> omega
  | ⟨1, _⟩ =>
    show i.val = if n = 1 then 0 else i.val
    have := i.isLt
    split <;> omega

/-- A host broadcast of three axes along the last one of length one. -/
theorem hbcast_last {a n k : ℕ} (x : (⟨3, ![a, n, 1]⟩ : Shape).Idx → α) (h : (⟨3, ![a, n, 1]⟩ : Shape).BroadcastsInDim ⟨3, ![a, n, k]⟩ ![0, 1, 2])
    (p : Fin a) (i : Fin n) (j : Fin k) : broadcastInDim ⟨3, ![a, n, k]⟩ ![0, 1, 2] h x (ix3 p i j) = x (ix3 p i 0) := by
  refine broadcastInDim_apply _ h x _ _ fun b => ?_
  match b with
  | ⟨0, _⟩ =>
    show p.val = if a = 1 then 0 else p.val
    have := p.isLt
    split <;> omega
  | ⟨1, _⟩ =>
    show i.val = if n = 1 then 0 else i.val
    have := i.isLt
    split <;> omega
  | ⟨2, _⟩ => rfl

end Cert.Layout

end
-- ==== Proof.Exponent.lean ====
/-
  The exponent of the quantiser, on extended reals, as the kernel finds it: a binary search for the
  greatest biased exponent whose power of two does not exceed the argument. The powers of two are
  words of f32 with a zero significand. What the search returns is the number of those powers
  (`1 … 255`) the argument reaches, and the scale and its inverse are words read off that number.
-/
module

public import Idealize.ShloMosaic.PureOps.Ideal
public import Idealize.ShloMosaic.Lib.ValueIdx

@[expose] public section

noncomputable section

namespace Cert.Exponent

open Idealize.ShloMosaic

/-! ## The kernel's scalar functions -/

/-- The float whose biased exponent field is `k` and whose significand is zero. -/
def wordPow (k : BitVec 32) : EReal := Ideal.ofBits .f32 (IntOp.shli .vector k 23#32)

/-- One step of the search: take `k + s` when its power of two does not exceed `t`. -/
def step (t : EReal) (k s : BitVec 32) : BitVec 32 :=
  Scalar.select (Ideal.cmp .oge t (wordPow (IntOp.addi k s))) (IntOp.addi k s) k

/-- The search from `0`, by steps `128, 64, …, 1`. -/
def search (t : EReal) : BitVec 32 :=
  step t (step t (step t (step t (step t (step t (step t (step t 0#32 128#32) 64#32) 32#32) 16#32) 8#32) 4#32) 2#32) 1#32

/-- The exponent read off the search's result: `0` where it found nothing or the infinity. -/
def unbias (k : BitVec 32) : BitVec 32 :=
  Scalar.select (IntOp.ori (IntOp.cmpi .eq k 0#32) (IntOp.cmpi .eq k 255#32)) 0#32 (IntOp.subi k 126#32)

/-- The quantiser's exponent for a row whose greatest magnitude is `a` and whose quotient by 448 is `t`. -/
def expo (a t : EReal) : BitVec 32 :=
  Scalar.select (Ideal.cmp .oeq a (Ideal.ofBits .f32 0x00000000#32)) 0#32 (unbias (search t))

/-- `2 ^ e` as a word: the biased exponent clipped to `0 … 255`. -/
def clipPow (e : BitVec 32) : EReal :=
  wordPow (IntOp.minsi 255#32 (IntOp.maxsi 0#32 (IntOp.addi e 127#32)))

/-- The scale the kernel stores. -/
def scale (a t : EReal) : EReal := clipPow (expo a t)

/-- The factor the kernel multiplies by before it rounds. -/
def invScale (a t : EReal) : EReal := clipPow (IntOp.subi 0#32 (expo a t))

/-- A choice on a truth value. -/
theorem select_ofBool {α : Type} (p : Bool) (a b : α) : Scalar.select (BitVec.ofBool p) a b = if p then a else b := by
  cases p <;> rfl

/-! ## The words of the powers of two -/

theorem fields : ∀ k : Fin 256,
    ((IntOp.shli .vector (BitVec.ofNat 32 k) 23#32).extractLsb' 31 1 = 0#1)
    ∧ ((IntOp.shli .vector (BitVec.ofNat 32 k) 23#32).extractLsb' 23 8).toNat = k
    ∧ ((IntOp.shli .vector (BitVec.ofNat 32 k) 23#32).extractLsb' 0 23).toNat = 0 := by
  decide +kernel

/-- The word of biased exponent `0` is zero. -/
theorem wordPow_zero : wordPow 0#32 = 0 := by
  have h := fields 0
  simp only [wordPow, Ideal.ofBits, Ideal.ieee]
  rw [show (0#32 : BitVec 32) = BitVec.ofNat 32 ((0 : Fin 256) : ℕ) from rfl]
  rw [h.2.1, h.2.2]
  simp

/-- The word of biased exponent `255` is the infinity. -/
theorem wordPow_top : wordPow 255#32 = ⊤ := by
  have h := fields 255
  simp only [wordPow, Ideal.ofBits, Ideal.ieee]
  rw [show (255#32 : BitVec 32) = BitVec.ofNat 32 ((255 : Fin 256) : ℕ) from rfl]
  rw [h.1, h.2.1, h.2.2]
  simp

/-- The word of biased exponent `k` in `1 … 254` is `2 ^ (k - 127)`. -/
theorem wordPow_of (k : ℕ) (h1 : 1 ≤ k) (h2 : k ≤ 254) :
    wordPow (BitVec.ofNat 32 k) = (((2 : ℝ) ^ ((k : ℤ) - 127) : ℝ) : EReal) := by
  have h := fields ⟨k, by omega⟩
  simp only [Fin.val_mk] at h
  simp only [wordPow, Ideal.ofBits, Ideal.ieee]
  rw [h.1, h.2.1, h.2.2]
  rw [if_neg (by norm_num; omega), if_neg (by omega)]
  congr 1
  have : ((0#1 : BitVec 1) == 1#1) = false := by decide
  rw [this]
  norm_num
  rw [show ((8388608 : ℝ)) = 2 ^ (23 : ℤ) by norm_num, ← zpow_add₀ (by norm_num : (2 : ℝ) ≠ 0)]
  congr 1
  ring

/-- The powers of two increase with the biased exponent. -/
theorem wordPow_mono {k l : ℕ} (hk : 1 ≤ k) (hkl : k ≤ l) (hl : l ≤ 255) :
    wordPow (BitVec.ofNat 32 k) ≤ wordPow (BitVec.ofNat 32 l) := by
  rcases Nat.lt_or_ge l 255 with h | h
  · rw [wordPow_of k hk (by omega), wordPow_of l (by omega) (by omega)]
    apply EReal.coe_le_coe_iff.mpr
    exact zpow_le_zpow_right₀ (by norm_num) (by omega)
  · have : l = 255 := by omega
    subst this
    rw [wordPow_top]; exact le_top

/-! ## The number of powers of two reached -/

open Classical in
/-- The greatest biased exponent in `1 … 255` whose power of two does not exceed `t`; `0` if there is none. -/
def reach (t : EReal) : ℕ := Nat.findGreatest (fun k => 1 ≤ k ∧ wordPow (BitVec.ofNat 32 k) ≤ t) 255

theorem reach_le (t : EReal) : reach t ≤ 255 := Nat.findGreatest_le _

/-- A power of two does not exceed `t` exactly when its exponent is at most the number reached. -/
theorem wordPow_le_iff (t : EReal) (k : ℕ) (h1 : 1 ≤ k) (h2 : k ≤ 255) :
    wordPow (BitVec.ofNat 32 k) ≤ t ↔ k ≤ reach t := by
  classical
  constructor
  · intro h
    exact Nat.le_findGreatest h2 ⟨h1, h⟩
  · intro h
    have hr : reach t ≠ 0 := by omega
    have := (Nat.findGreatest_of_ne_zero (P := fun k => 1 ≤ k ∧ wordPow (BitVec.ofNat 32 k) ≤ t) (n := 255) rfl hr)
    exact (wordPow_mono h1 h (reach_le t)).trans this.2

/-- One step of the search on naturals. -/
theorem step_eq (t : EReal) (k s : ℕ) (hs : 1 ≤ s) (hks : k + s ≤ 255) :
    step t (BitVec.ofNat 32 k) (BitVec.ofNat 32 s) = BitVec.ofNat 32 (if k + s ≤ reach t then k + s else k) := by
  have hadd : IntOp.addi (BitVec.ofNat 32 k) (BitVec.ofNat 32 s) = BitVec.ofNat 32 (k + s) := by
    simp only [IntOp.addi, BitVec.ofNat_add]
  unfold step
  rw [hadd]
  have hc := wordPow_le_iff t (k + s) (by omega) hks
  simp only [Ideal.cmp, select_ofBool, decide_eq_true_eq, hc]
  split <;> rfl

/-- The search returns the number of powers of two reached. -/
theorem search_eq (t : EReal) : search t = BitVec.ofNat 32 (reach t) := by
  have hB := reach_le t
  have go : ∀ (k s k' : ℕ), 1 ≤ s → k + s ≤ 255 → (if k + s ≤ reach t then k + s else k) = k' →
      step t (BitVec.ofNat 32 k) (BitVec.ofNat 32 s) = BitVec.ofNat 32 k' := fun k s k' hs hks h => by
    rw [step_eq t k s hs hks, h]
  unfold search
  rw [go 0 128 (reach t / 128 * 128) (by omega) (by omega) (by split <;> omega)]
  rw [go _ 64 (reach t / 64 * 64) (by omega) (by omega) (by split <;> omega)]
  rw [go _ 32 (reach t / 32 * 32) (by omega) (by omega) (by split <;> omega)]
  rw [go _ 16 (reach t / 16 * 16) (by omega) (by omega) (by split <;> omega)]
  rw [go _ 8 (reach t / 8 * 8) (by omega) (by omega) (by split <;> omega)]
  rw [go _ 4 (reach t / 4 * 4) (by omega) (by omega) (by split <;> omega)]
  rw [go _ 2 (reach t / 2 * 2) (by omega) (by omega) (by split <;> omega)]
  rw [go _ 1 (reach t) (by omega) (by omega) (by split <;> omega)]

/-! ## The scale and its inverse, read off that number -/

theorem clip_words : ∀ B : Fin 256,
    IntOp.minsi 255#32 (IntOp.maxsi 0#32 (IntOp.addi (unbias (BitVec.ofNat 32 B)) 127#32))
        = BitVec.ofNat 32 (if (B : ℕ) = 0 ∨ (B : ℕ) = 255 then 127 else B + 1)
    ∧ IntOp.minsi 255#32 (IntOp.maxsi 0#32 (IntOp.addi (IntOp.subi 0#32 (unbias (BitVec.ofNat 32 B))) 127#32))
        = BitVec.ofNat 32 (if (B : ℕ) = 0 ∨ (B : ℕ) = 255 then 127 else 253 - B) := by
  decide +kernel

/-- The word of the number one. -/
theorem wordPow_127 : wordPow 127#32 = 1 := by
  have := wordPow_of 127 (by omega) (by omega)
  rw [show (127#32 : BitVec 32) = BitVec.ofNat 32 127 from rfl, this]
  norm_num

theorem zero_word : Ideal.ofBits .f32 0x00000000#32 = 0 := by
  simp [Ideal.ofBits, Ideal.ieee]

/-- Where the row is zero, or nothing or the infinity is reached, the scale is one and so is its inverse. -/
theorem scale_one (a t : EReal) (h : a = 0 ∨ reach t = 0 ∨ reach t = 255) : scale a t = 1 ∧ invScale a t = 1 := by
  by_cases ha : a = 0
  · have : expo a t = 0#32 := by
      simp only [expo, Ideal.cmp, zero_word, select_ofBool, decide_eq_true_eq, if_pos ha]
    unfold scale invScale clipPow
    rw [this]
    exact ⟨wordPow_127, wordPow_127⟩
  · have hr : reach t = 0 ∨ reach t = 255 := by tauto
    have he : expo a t = unbias (BitVec.ofNat 32 (reach t)) := by
      simp only [expo, Ideal.cmp, zero_word, select_ofBool, decide_eq_true_eq, if_neg ha, search_eq]
    have hw := clip_words ⟨reach t, by have := reach_le t; omega⟩
    unfold scale invScale clipPow
    rw [he]
    simp only [Fin.val_mk, if_pos hr] at hw
    rw [hw.1, hw.2]
    exact ⟨wordPow_127, wordPow_127⟩

/-- Elsewhere they are the words of biased exponent `reach t + 1` and `253 - reach t`. -/
theorem scale_words (a t : EReal) (ha : a ≠ 0) (h0 : reach t ≠ 0) (h1 : reach t ≠ 255) :
    scale a t = wordPow (BitVec.ofNat 32 (reach t + 1)) ∧ invScale a t = wordPow (BitVec.ofNat 32 (253 - reach t)) := by
  have he : expo a t = unbias (BitVec.ofNat 32 (reach t)) := by
    simp only [expo, Ideal.cmp, zero_word, select_ofBool, decide_eq_true_eq, if_neg ha, search_eq]
  have hw := clip_words ⟨reach t, by have := reach_le t; omega⟩
  unfold scale invScale clipPow
  rw [he]
  simp only [Fin.val_mk, if_neg (show ¬(reach t = 0 ∨ reach t = 255) by tauto)] at hw
  rw [hw.1, hw.2]
  exact ⟨rfl, rfl⟩

end Cert.Exponent

end
-- ==== Proof.Spec.lean ====
/-
  One row of the layer, as functions of the row: the normalised row, its largest magnitude, the power-of-two scale the
  quantiser takes from it, the codes, and one entry of the scaled product. Both programs are shown to compute these.
-/
module

public import proofs.«01_k».proof.Proof.Exponent

@[expose] public section

noncomputable section

namespace Cert.Spec

open Idealize.ShloMosaic
open scoped BigOperators

/-- One over the root mean square of a row, with the norm's epsilon. -/
def invRms (r : Fin 4096 → EReal) : EReal :=
  Ideal.rsqrt (Ideal.div (∑ k, r k * r k) (Ideal.ofBits .f32 0x45800000#32) + Ideal.ofBits .f32 0x358637BD#32)

/-- The normalised row with its gain. -/
def normed (r g : Fin 4096 → EReal) (k : Fin 4096) : EReal := r k * invRms r * g k

/-- The largest magnitude of a row. -/
def absMax (h : Fin 4096 → EReal) : EReal :=
  Finset.univ.fold max (Ideal.ofBits .f32 0xFF800000#32) fun k => max (h k) (-(h k))

/-- The quotient of the largest magnitude by 448, as the programs multiply it. -/
def stepArg (h : Fin 4096 → EReal) : EReal := absMax h * Ideal.ofBits .f32 0x3B124925#32

/-- The row's scale, a power of two. -/
def rowScale (h : Fin 4096 → EReal) : EReal := Exponent.scale (absMax h) (stepArg h)

/-- The scale's inverse. -/
def rowInv (h : Fin 4096 → EReal) : EReal := Exponent.invScale (absMax h) (stepArg h)

/-- The row's codes: the row times the inverse scale, clamped to ±448. -/
def code (h : Fin 4096 → EReal) (k : Fin 4096) : EReal :=
  min (Ideal.ofBits .f32 0x43E00000#32) (max (Ideal.ofBits .f32 0xC3E00000#32) (h k * rowInv h))

/-- One entry of the product: codes against a weight row, times the row's scale and the weight row's. -/
def entry (q w : Fin 4096 → EReal) (s v : EReal) : EReal := (∑ k, q k * w k) * s * v

end Cert.Spec

end
-- ==== Proof.KernelBlock.lean ====
/-
  What one block of each of the kernel's two regions computes, entry by entry: the first region's block of 128 rows is
  the residual sum, the quantiser's codes and the quantiser's scales of those rows; the second region's block is the
  scaled product of the block's codes and weights.
-/
module

public import proofs.«01_k».proof.Proof.Gen.KernelIdeal.Frame
public import proofs.«01_k».proof.Proof.Layout
public import proofs.«01_k».proof.Proof.Spec
public import Idealize.ShloMosaic.Lib.MatmulPlain
public import Idealize.ShloMosaic.PureOps.Ideal.Laws

@[expose] public section

noncomputable section

namespace Cert.KernelIdeal.Block

open Cert.KernelIdeal Cert.KernelIdeal.Gen
open Idealize.ShloMosaic Idealize.ShloMosaic.ValueIdx
open scoped BigOperators

/-! ## The first region -/

variable (x0 x1 : Vec Ideal S128x4096 .f32) (x2 : Vec Ideal S1x4096 .f32)

/-- Row `i` of the residual sum. -/
def row (i : Fin 128) (k : Fin 4096) : EReal := x0 (ix2 i k) + x1 (ix2 i k)

/-- Row `i` normalised. -/
def hrow (i : Fin 128) : Fin 4096 → EReal := Spec.normed (row x0 x1 i) (fun k => x2 (ix2 0 k))

/-- The residual sum at an entry. -/
theorem pay2_apply (i : Fin 128) (k : Fin 4096) : k0_pay2 x0 x1 (ix2 i k) = row x0 x1 i k := by
  unfold k0_pay2 row
  simp only [shapeCast_self]
  rfl

/-- The reduced axis put back: row `i`, column `k`. -/
theorem lift_eq (h : S128x4096.Reduces [1] S128) (i : Fin 128) (k : Fin 4096) : h.lift (ix1 i) k = ix2 i k := by
  funext a
  match a with
  | ⟨0, _⟩ => rfl
  | ⟨1, _⟩ => rfl

/-- The normalised block at an entry. -/
theorem pay3_apply (i : Fin 128) (k : Fin 4096) : k0_pay3 x0 x1 x2 (ix2 i k) = hrow x0 x1 x2 i k := by
  unfold k0_pay3 hrow Spec.normed Spec.invRms
  simp only [shapeCast_self]
  rw [mulf_apply, mulf_apply, Layout.bcast_col, Layout.bcast_row, pay2_apply]
  congr 2
  show Ideal.rsqrt (Ideal.div (shapeCast S128x1 _ _ (ix2 i 0)) (Ideal.ofBits .f32 0x45800000#32) + Ideal.ofBits .f32 0x358637BD#32) = _
  rw [Layout.cast_col]
  refine congrArg (fun e => Ideal.rsqrt (Ideal.div e (Ideal.ofBits .f32 0x45800000#32) + Ideal.ofBits .f32 0x358637BD#32)) ?_
  refine (Ideal.multiReduction_add_single _ _ _ _ _ _).trans (Finset.sum_congr rfl fun j _ => ?_)
  rw [mulf_apply]
  refine (congrArg (fun z => k0_pay2 x0 x1 z * k0_pay2 x0 x1 z) (lift_eq _ i j)).trans ?_
  exact congrArg₂ (· * ·) (pay2_apply x0 x1 i j) (pay2_apply x0 x1 i j)

/-- The block's largest magnitudes. -/
theorem pay4_apply (i : Fin 128) : k0_pay4 x0 x1 x2 (ix2 i 0) = Spec.absMax (hrow x0 x1 x2 i) := by
  unfold k0_pay4 Spec.absMax
  rw [Layout.cast_col]
  refine (Ideal.multiReduction_maximumf_single _ _ _ _ _ _).trans (Finset.fold_congr fun j _ => ?_)
  refine (congrArg (absf (k0_pay3 x0 x1 x2)) (lift_eq _ i j)).trans ?_
  exact congrArg (fun e : EReal => max e (-e)) (pay3_apply x0 x1 x2 i j)

/-- The quotient by 448. -/
theorem pay5_apply (i : Fin 128) : k0_pay5 x0 x1 x2 (ix2 i 0) = Spec.stepArg (hrow x0 x1 x2 i) := by
  unfold k0_pay5 Spec.stepArg
  rw [mulf_apply, pay4_apply]
  rfl

/-- One step of the search over a whole column, at an entry. -/
theorem step_vec (t : FVec Ideal S128x1 .f32) (k s : IVec S128x1 32) (z : S128x1.Idx) :
    select (cmpf .oge t (bitcastToFloat .f32 (shli (addi k s) (broadcast S128x1 23#32)))) (addi k s) k z
      = Exponent.step (t z) (k z) (s z) := rfl

/-- The search's first step. -/
theorem pay6_apply (z : S128x1.Idx) :
    k0_pay6 x0 x1 x2 z = Exponent.step (k0_pay5 x0 x1 x2 z) 0#32 128#32 := by
  unfold k0_pay6
  exact step_vec _ _ _ z

/-- The search's second comparison. -/
theorem pay7_apply (z : S128x1.Idx) :
    k0_pay7 x0 x1 x2 z = Ideal.cmp .oge (k0_pay5 x0 x1 x2 z) (Exponent.wordPow (IntOp.addi (k0_pay6 x0 x1 x2 z) 64#32)) := rfl

/-- The second to the sixth step, from what the first left. -/
theorem pay9_apply (t : FVec Ideal S128x1 .f32) (k : IVec S128x1 32) (b : IVec S128x1 1) (w : IVec S128x1 32) (z : S128x1.Idx) :
    k0_pay9 t k b w z = Exponent.step (t z) (Exponent.step (t z) (Exponent.step (t z) (Exponent.step (t z)
      (Scalar.select (b z) (IntOp.addi (k z) (w z)) (k z)) 32#32) 16#32) 8#32) 4#32 := rfl

/-- The seventh step's comparison. -/
theorem pay10_apply (t : FVec Ideal S128x1 .f32) (k : IVec S128x1 32) (b : IVec S128x1 1) (w : IVec S128x1 32) (z : S128x1.Idx) :
    k0_pay10 t k b w z = Ideal.cmp .oge (t z) (Exponent.wordPow (IntOp.addi (k0_pay9 t k b w z) 2#32)) := rfl

/-- The last two steps and the exponent read off them. -/
theorem pay12_apply (a t : FVec Ideal S128x1 .f32) (k : IVec S128x1 32) (b : IVec S128x1 1) (w : IVec S128x1 32) (z : S128x1.Idx) :
    k0_pay12 a t k b w z = Scalar.select (Ideal.cmp .oeq (a z) (Ideal.ofBits .f32 0x00000000#32)) 0#32
      (Exponent.unbias (Exponent.step (t z) (Scalar.select (b z) (IntOp.addi (k z) (w z)) (k z)) 1#32)) := rfl

/-- The search, put together: the block's exponents. -/
theorem expo_apply (z : S128x1.Idx) :
    k0_pay12 (k0_pay16 x0 x1 x2) (k0_pay17 x0 x1 x2) (k0_pay21 x0 x1 x2) (k0_pay22 x0 x1 x2) (k0_pay23 (F := Ideal) x0 x1 x2) z
      = Exponent.expo (k0_pay16 x0 x1 x2 z) (k0_pay17 x0 x1 x2 z) := by
  rw [pay12_apply]
  unfold k0_pay22
  rw [pay10_apply]
  unfold k0_pay21
  rw [pay9_apply]
  unfold k0_pay19 k0_pay18
  rw [pay7_apply, pay6_apply]
  rfl

theorem hz : (![0, 0] : Fin 2 → Nat) = fun _ => 0 := funext fun a => by fin_cases a <;> rfl

/-- The first output block: the residual sum. -/
theorem out3_apply (i : Fin 128) (k : Fin 4096) : out0_3 x0 x1 x2 (ix2 i k) = row x0 x1 i k := by
  unfold out0_3
  rw [View.canon_unit_zero hz, View.ld_unit_zero hz, View.ld_unit_zero hz]
  exact pay2_apply x0 x1 i k

theorem pay16_apply (i : Fin 128) : k0_pay16 x0 x1 x2 (ix2 i 0) = Spec.absMax (hrow x0 x1 x2 i) := by
  unfold k0_pay16
  rw [View.ld_unit_zero hz, View.ld_unit_zero hz, View.ld_unit_zero hz]
  exact pay4_apply x0 x1 x2 i

theorem pay17_apply (i : Fin 128) : k0_pay17 x0 x1 x2 (ix2 i 0) = Spec.stepArg (hrow x0 x1 x2 i) := by
  unfold k0_pay17
  rw [View.ld_unit_zero hz, View.ld_unit_zero hz, View.ld_unit_zero hz]
  exact pay5_apply x0 x1 x2 i

/-- The third output block: the rows' scales. -/
theorem out5_apply (i : Fin 128) : out0_5 x0 x1 x2 (ix2 i 0) = Spec.rowScale (hrow x0 x1 x2 i) := by
  unfold out0_5
  rw [View.canon_unit_zero hz]
  show Exponent.clipPow (k0_pay12 (k0_pay16 x0 x1 x2) (k0_pay17 x0 x1 x2) (k0_pay21 x0 x1 x2) (k0_pay22 x0 x1 x2) (k0_pay23 (F := Ideal) x0 x1 x2) (ix2 i 0)) = _
  rw [expo_apply, pay16_apply, pay17_apply]
  rfl

/-- The second output block: the rows' codes. -/
theorem out4_apply (i : Fin 128) (k : Fin 4096) : out0_4 x0 x1 x2 (ix2 i k) = Spec.code (hrow x0 x1 x2 i) k := by
  unfold out0_4
  rw [View.canon_unit_zero hz, View.ld_unit_zero hz, View.ld_unit_zero hz, View.ld_unit_zero hz]
  unfold k0_pay1 Spec.code Spec.rowInv
  rw [truncf_apply, minimumf_apply, maximumf_apply, mulf_apply, Layout.bcast_col, pay3_apply]
  show min _ (max _ (_ * Exponent.clipPow (IntOp.subi 0#32 (k0_pay12 (k0_pay16 x0 x1 x2) (k0_pay17 x0 x1 x2) (k0_pay21 x0 x1 x2) (k0_pay22 x0 x1 x2) (k0_pay23 (F := Ideal) x0 x1 x2) (ix2 i 0))))) = _
  rw [expo_apply, pay16_apply, pay17_apply]
  rfl

/-! ## The second region -/

/-- The output block: the codes against the weights, times the two scales. -/
theorem out1_apply (q w : Vec Ideal S1024x4096 .fp8e4m3) (s : Vec Ideal S1024x1 .f32) (v : Vec Ideal S1x1024 .f32) (i j : Fin 1024) :
    out1_4 q w s v (ix2 i j)
      = Spec.entry (fun k => q (ix2 i k)) (fun k => w (ix2 j k)) (s (ix2 i 0)) (v (ix2 0 j)) := by
  unfold out1_4
  rw [View.canon_unit_zero hz, View.ld_unit_zero hz, View.ld_unit_zero hz, View.ld_unit_zero hz, View.ld_unit_zero hz]
  unfold k1_pay1 Spec.entry
  simp only [shapeCast_self]
  rw [mulf_apply, mulf_apply, Layout.bcast_col, Layout.bcast_row]
  congr 2
  refine (Ideal.matmul_transposedRhs_apply (M := 1024) (K := 4096) (N := 1024) none q w _ i j).trans ?_
  show Ideal.ofBits .f32 0x00000000#32 + _ = _
  rw [Ideal.ofBits_zero_f32, zero_add]

end Cert.KernelIdeal.Block

end
-- ==== Proof.KernelArrays.lean ====
/-
  What each of the kernel's four output arrays holds after its region, entry by entry, as a function of the arrays the
  region finds: every block is the block computation's, and the blocks tile the array.
-/
module

public import proofs.«01_k».proof.Proof.KernelBlock
public import Idealize.ShloMosaic.Lib.Pipeline.ValueKit.Geometry

@[expose] public section

noncomputable section

namespace Cert.KernelIdeal.Arrays

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b)) (c : Dev nD)

/-! ## The first region -/

/-- Row `R` of the sum of two arrays. -/
def row (x0 x1 : S8192x4096.Idx → EReal) (R : Fin 8192) (k : Fin 4096) : EReal := x0 (ix2 R k) + x1 (ix2 R k)

/-- Row `R` of the sum, normalised with the gain `x2`. -/
def hrow (x0 x1 : S8192x4096.Idx → EReal) (x2 : S1x4096.Idx → EReal) (R : Fin 8192) : Fin 4096 → EReal :=
  Spec.normed (row x0 x1 R) (fun k => x2 (ix2 0 k))

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![0, 0] := (by decide +kernel : ∀ t : Fin grid0.N, win0_2.index t = ![0, 0])
theorem e3 : ∀ t : Fin cfg0.N, win0_3.index t = ![t.val, 0] := (by decide +kernel : ∀ t : Fin grid0.N, win0_3.index t = ![t.val, 0])
theorem e4 : ∀ t : Fin cfg0.N, win0_4.index t = ![t.val, 0] := (by decide +kernel : ∀ t : Fin grid0.N, win0_4.index t = ![t.val, 0])
theorem e5 : ∀ t : Fin cfg0.N, win0_5.index t = ![t.val, 0] := (by decide +kernel : ∀ t : Fin grid0.N, win0_5.index t = ![t.val, 0])

/-- Row `i` of block `t`. -/
def at0 (t : Fin cfg0.N) (i : Fin 128) : Fin 8192 :=
  ⟨t.val * 128 + i.val, by have h : t.val < 64 := t.isLt; omega⟩

theorem blk0 (t : Fin cfg0.N) (i : Fin 128) (k : Fin 4096) :
    (iblk0 V c 0 t : S128x4096.Idx → EReal) (ix2 i k) = (V c main_v0 : S8192x4096.Idx → EReal) (ix2 (at0 t i) k) := by
  blk_simp [iblk0]
  congr 1
  blk_ext [e0] <;> rfl

theorem blk1 (t : Fin cfg0.N) (i : Fin 128) (k : Fin 4096) :
    (iblk0 V c 1 t : S128x4096.Idx → EReal) (ix2 i k) = (V c main_v1 : S8192x4096.Idx → EReal) (ix2 (at0 t i) k) := by
  blk_simp [iblk0]
  congr 1
  blk_ext [e1] <;> rfl

theorem blk2 (t : Fin cfg0.N) (z : Fin 1) (k : Fin 4096) :
    (iblk0 V c 2 t : S1x4096.Idx → EReal) (ix2 z k) = (V c main_v2 : S1x4096.Idx → EReal) (ix2 z k) := by
  blk_simp [iblk0]
  congr 1
  blk_ext [e2] <;> simp [ix2]

/-- Row `i` of block `t`'s sum is row `128 t + i` of the arrays' sum. -/
theorem row_blk (t : Fin cfg0.N) (i : Fin 128) :
    Block.row (iblk0 V c 0 t) (iblk0 V c 1 t) i = row (V c main_v0) (V c main_v1) (at0 t i) := by
  funext k
  exact congrArg₂ (fun a b : EReal => a + b) (blk0 V c t i k) (blk1 V c t i k)

/-- Row `i` of block `t` normalised is row `128 t + i` of the array normalised. -/
theorem hrow_blk (t : Fin cfg0.N) (i : Fin 128) :
    Block.hrow (iblk0 V c 0 t) (iblk0 V c 1 t) (iblk0 V c 2 t) i
      = hrow (V c main_v0) (V c main_v1) (V c main_v2) (at0 t i) :=
  congrArg₂ Spec.normed (row_blk V c t i) (funext fun k => blk2 V c t 0 k)

theorem emb3 (t : Fin cfg0.N) (i : Fin 128) (k : Fin 4096) :
    ((cfg0.win 3).blk t).view.emb (ix2 i k) = (ix2 (at0 t i) k : S8192x4096.Idx) := by
  blk_ext [e3] <;> rfl

theorem emb4 (t : Fin cfg0.N) (i : Fin 128) (k : Fin 4096) :
    ((cfg0.win 4).blk t).view.emb (ix2 i k) = (ix2 (at0 t i) k : S8192x4096.Idx) := by
  blk_ext [e4] <;> rfl

theorem emb5 (t : Fin cfg0.N) (i : Fin 128) (z : Fin 1) :
    ((cfg0.win 5).blk t).view.emb (ix2 i z) = (ix2 (at0 t i) z : S8192x1.Idx) := by
  blk_ext [e5] <;> simp [ix2, at0]

theorem arr3 : (dat0 V c).arrAt 3 cfg0.N = (fun i : S8192x4096.Idx => row (V c main_v0) (V c main_v1) (i 0) (i 1)) := by
  refine (dat0 V c).arrAt_eq_of_covers 3 _ (by decide +kernel) fun t hf y => ?_
  obtain ⟨i, k, rfl⟩ : ∃ (i : Fin 128) (k : Fin 4096), y = ix2 i k := ⟨y 0, y 1, eq_ix2 y⟩
  refine Eq.trans ?_ (congrArg (fun i : S8192x4096.Idx => row (V c main_v0) (V c main_v1) (i 0) (i 1)) (emb3 t i k)).symm
  blk_simp
  rw [after0_3]
  exact (Block.out3_apply _ _ _ i k).trans (congrFun (row_blk V c t i) k)

theorem arr4 : (dat0 V c).arrAt 4 cfg0.N
    = (fun i : S8192x4096.Idx => Spec.code (hrow (V c main_v0) (V c main_v1) (V c main_v2) (i 0)) (i 1)) := by
  refine (dat0 V c).arrAt_eq_of_covers 4 _ (by decide +kernel) fun t hf y => ?_
  obtain ⟨i, k, rfl⟩ : ∃ (i : Fin 128) (k : Fin 4096), y = ix2 i k := ⟨y 0, y 1, eq_ix2 y⟩
  refine Eq.trans ?_ (congrArg (fun i : S8192x4096.Idx =>
    Spec.code (hrow (V c main_v0) (V c main_v1) (V c main_v2) (i 0)) (i 1)) (emb4 t i k)).symm
  blk_simp
  rw [after0_4]
  exact (Block.out4_apply _ _ _ i k).trans (congrArg (fun h => Spec.code h k) (hrow_blk V c t i))

theorem arr5 : (dat0 V c).arrAt 5 cfg0.N
    = (fun i : S8192x1.Idx => Spec.rowScale (hrow (V c main_v0) (V c main_v1) (V c main_v2) (i 0))) := by
  refine (dat0 V c).arrAt_eq_of_covers 5 _ (by decide +kernel) fun t hf y => ?_
  obtain ⟨i, z, rfl⟩ : ∃ (i : Fin 128) (z : Fin 1), y = ix2 i z := ⟨y 0, y 1, eq_ix2 y⟩
  obtain rfl : z = 0 := Subsingleton.elim _ _
  refine Eq.trans ?_ (congrArg (fun i : S8192x1.Idx =>
    Spec.rowScale (hrow (V c main_v0) (V c main_v1) (V c main_v2) (i 0))) (emb5 t i 0)).symm
  blk_simp
  rw [after0_5]
  exact (Block.out5_apply _ _ _ i).trans (congrArg Spec.rowScale (hrow_blk V c t i))

/-! ## The second region -/

theorem f0 : ∀ t : Fin cfg1.N, win1_0.index t = ![(grid1.coords t 0).val, 0] := (by decide +kernel : ∀ t : Fin grid1.N, win1_0.index t = ![(grid1.coords t 0).val, 0])
theorem f1 : ∀ t : Fin cfg1.N, win1_1.index t = ![(grid1.coords t 1).val, 0] := (by decide +kernel : ∀ t : Fin grid1.N, win1_1.index t = ![(grid1.coords t 1).val, 0])
theorem f2 : ∀ t : Fin cfg1.N, win1_2.index t = ![(grid1.coords t 0).val, 0] := (by decide +kernel : ∀ t : Fin grid1.N, win1_2.index t = ![(grid1.coords t 0).val, 0])
theorem f3 : ∀ t : Fin cfg1.N, win1_3.index t = ![0, (grid1.coords t 1).val] := (by decide +kernel : ∀ t : Fin grid1.N, win1_3.index t = ![0, (grid1.coords t 1).val])
theorem f4 : ∀ t : Fin cfg1.N, win1_4.index t = ![(grid1.coords t 0).val, (grid1.coords t 1).val] := (by decide +kernel : ∀ t : Fin grid1.N, win1_4.index t = ![(grid1.coords t 0).val, (grid1.coords t 1).val])

/-- Row `i` of the row block at point `t`. -/
def rowAt (t : Fin cfg1.N) (i : Fin 1024) : Fin 8192 :=
  ⟨(grid1.coords t 0).val * 1024 + i.val, by have h : (grid1.coords t 0).val < 8 := (grid1.coords t 0).isLt; omega⟩

/-- Column `j` of the column block at point `t`. -/
def colAt (t : Fin cfg1.N) (j : Fin 1024) : Fin 12288 :=
  ⟨(grid1.coords t 1).val * 1024 + j.val, by have h : (grid1.coords t 1).val < 12 := (grid1.coords t 1).isLt; omega⟩

theorem mblk0 (t : Fin cfg1.N) (i : Fin 1024) (k : Fin 4096) :
    (iblk1 V c 0 t : S1024x4096.Idx → EReal) (ix2 i k) = (V c main_v3_1 : S8192x4096.Idx → EReal) (ix2 (rowAt t i) k) := by
  blk_simp [iblk1]
  congr 1
  blk_ext [f0] <;> rfl

theorem mblk1 (t : Fin cfg1.N) (j : Fin 1024) (k : Fin 4096) :
    (iblk1 V c 1 t : S1024x4096.Idx → EReal) (ix2 j k) = (V c main_arg3 : S12288x4096.Idx → EReal) (ix2 (colAt t j) k) := by
  blk_simp [iblk1]
  congr 1
  blk_ext [f1] <;> rfl

theorem mblk2 (t : Fin cfg1.N) (i : Fin 1024) (z : Fin 1) :
    (iblk1 V c 2 t : S1024x1.Idx → EReal) (ix2 i z) = (V c main_v3_2 : S8192x1.Idx → EReal) (ix2 (rowAt t i) z) := by
  blk_simp [iblk1]
  congr 1
  blk_ext [f2] <;> simp [ix2, rowAt]

theorem mblk3 (t : Fin cfg1.N) (z : Fin 1) (j : Fin 1024) :
    (iblk1 V c 3 t : S1x1024.Idx → EReal) (ix2 z j) = (V c main_v4 : S1x12288.Idx → EReal) (ix2 z (colAt t j)) := by
  blk_simp [iblk1]
  congr 1
  blk_ext [f3] <;> simp [ix2, colAt]

theorem memb4 (t : Fin cfg1.N) (i : Fin 1024) (j : Fin 1024) :
    ((cfg1.win 4).blk t).view.emb (ix2 i j) = (ix2 (rowAt t i) (colAt t j) : S8192x12288.Idx) := by
  blk_ext [f4] <;> rfl

/-- Entry `(R, C)` of the scaled product of two arrays. -/
def prod (q : S8192x4096.Idx → EReal) (w : S12288x4096.Idx → EReal) (s : S8192x1.Idx → EReal)
    (v : S1x12288.Idx → EReal) (R : Fin 8192) (C : Fin 12288) : EReal :=
  Spec.entry (fun k => q (ix2 R k)) (fun k => w (ix2 C k)) (s (ix2 R 0)) (v (ix2 0 C))

theorem arr1 : (dat1 V c).arrAt 4 cfg1.N
    = (fun i : S8192x12288.Idx => prod (V c main_v3_1) (V c main_arg3) (V c main_v3_2) (V c main_v4) (i 0) (i 1)) := by
  refine (dat1 V c).arrAt_eq_of_covers 4 _ (by decide +kernel) fun t hf y => ?_
  obtain ⟨i, j, rfl⟩ : ∃ (i : Fin 1024) (j : Fin 1024), y = ix2 i j := ⟨y 0, y 1, eq_ix2 y⟩
  refine Eq.trans ?_ (congrArg (fun i : S8192x12288.Idx =>
    prod (V c main_v3_1) (V c main_arg3) (V c main_v3_2) (V c main_v4) (i 0) (i 1)) (memb4 t i j)).symm
  blk_simp
  rw [after1_4]
  refine (Block.out1_apply _ _ _ _ i j).trans ?_
  have h0 := funext fun k => mblk0 V c t i k
  have h1 := funext fun k => mblk1 V c t j k
  have h2 := mblk2 V c t i 0
  have h3 := mblk3 V c t 0 j
  exact (congrArg₂ (fun q w => Spec.entry q w _ _) h0 h1).trans (congrArg₂ (fun s v => Spec.entry _ _ s v) h2 h3)

end Cert.KernelIdeal.Arrays

end
-- ==== Proof.Problem.lean ====
/-
  The problem's four results as functions of its five arguments, entry by entry: the residual sum, the rows' codes, the
  rows' scales, and the product of the codes with the weights times both scales.
-/
module

public import proofs.«01_k».proof.Proof.Spec

@[expose] public section

noncomputable section

namespace Cert.Problem

open Idealize.ShloMosaic Idealize.ShloMosaic.ValueIdx

variable (x r : (⟨3, ![2, 4096, 4096]⟩ : Shape).Idx → EReal) (g : (⟨1, ![4096]⟩ : Shape).Idx → EReal)
  (w : (⟨2, ![12288, 4096]⟩ : Shape).Idx → EReal) (v : (⟨1, ![12288]⟩ : Shape).Idx → EReal)

/-- Row `(b, s)` of the residual sum. -/
def row (b : Fin 2) (s : Fin 4096) (k : Fin 4096) : EReal := x (ix3 b s k) + r (ix3 b s k)

/-- Row `(b, s)` normalised. -/
def hrow (b : Fin 2) (s : Fin 4096) : Fin 4096 → EReal := Spec.normed (row x r b s) (fun k => g (ix1 k))

/-- The residual sum. -/
def sum : (⟨3, ![2, 4096, 4096]⟩ : Shape).Idx → EReal := fun i => row x r (i 0) (i 1) (i 2)

/-- The codes. -/
def codes : (⟨3, ![2, 4096, 4096]⟩ : Shape).Idx → EReal := fun i => Spec.code (hrow x r g (i 0) (i 1)) (i 2)

/-- The rows' scales. -/
def scales : (⟨3, ![2, 4096, 1]⟩ : Shape).Idx → EReal := fun i => Spec.rowScale (hrow x r g (i 0) (i 1))

/-- The scaled product. -/
def prod : (⟨3, ![2, 4096, 12288]⟩ : Shape).Idx → EReal := fun i =>
  Spec.entry (fun k => Spec.code (hrow x r g (i 0) (i 1)) k) (fun k => w (ix2 (i 2) k))
    (Spec.rowScale (hrow x r g (i 0) (i 1))) (v (ix1 (i 2)))

end Cert.Problem

end
-- ==== Proof.KernelValue.lean ====
/-
  The kernel's four results as functions of its arguments: the contents at the last segment boundary, read back through
  the reshapes and the two regions.
-/
module

public import proofs.«01_k».proof.Proof.KernelArrays
public import proofs.«01_k».proof.Proof.Problem

@[expose] public section

noncomputable section

namespace Cert.KernelIdeal.Value

open Cert.KernelIdeal Cert.KernelIdeal.Gen
open Idealize.ShloMosaic Idealize.ShloMosaic.TcCoe Idealize.ShloMosaic.ValueIdx Idealize.ShloMosaic.Tactic

variable (m : (ℓ : Loc nD τ sig) → Buf (Elt Ideal) ℓ) (ρ : Dev nD → PrngReg) (c : Dev nD)

/-- The two summands. -/
abbrev x : S2x4096x4096.Idx → EReal := m ((c.tc : Thread nD τ).loc main_arg0)
abbrev r : S2x4096x4096.Idx → EReal := m ((c.tc : Thread nD τ).loc main_arg1)
/-- The gain. -/
abbrev g : S4096.Idx → EReal := m ((c.tc : Thread nD τ).loc main_arg2)
/-- The weights and their scales. -/
abbrev w : S12288x4096.Idx → EReal := m ((c.tc : Thread nD τ).loc main_arg3)
abbrev v : S12288.Idx → EReal := m ((c.tc : Thread nD τ).loc main_arg4)

/-! ## What the first region finds -/

theorem find0 (b : Fin 2) (s k : Fin 4096) : (V1 m ρ c main_v0 : S8192x4096.Idx → EReal) (ix2 (Layout.merged b s) k) = x m c (ix3 b s k) := by
  have h : (V1 m ρ c main_v0 : S8192x4096.Idx → EReal) = shapeCast S8192x4096 (x m c) rfl := by
    show StableHlo.after hostOps0 (W0 m ρ c) (Proc.devRef .tc main_v0) = _
    after_results
    rfl
  rw [h]
  exact Layout.cast_merge _ _ b s k

theorem find1 (b : Fin 2) (s k : Fin 4096) : (V1 m ρ c main_v1 : S8192x4096.Idx → EReal) (ix2 (Layout.merged b s) k) = r m c (ix3 b s k) := by
  have h : (V1 m ρ c main_v1 : S8192x4096.Idx → EReal) = shapeCast S8192x4096 (r m c) rfl := by
    show StableHlo.after hostOps0 (W0 m ρ c) (Proc.devRef .tc main_v1) = _
    after_results
    rfl
  rw [h]
  exact Layout.cast_merge _ _ b s k

theorem find2 (k : Fin 4096) : (V1 m ρ c main_v2 : S1x4096.Idx → EReal) (ix2 0 k) = g m c (ix1 k) := by
  have h : (V1 m ρ c main_v2 : S1x4096.Idx → EReal) = shapeCast S1x4096 (g m c) rfl := by
    show StableHlo.after hostOps0 (W0 m ρ c) (Proc.devRef .tc main_v2) = _
    after_results
    rfl
  rw [h]
  exact Layout.cast_row _ _ 0 k

/-- A row of the arrays' sum is a row of the problem's. -/
theorem row_eq (b : Fin 2) (s : Fin 4096) :
    Arrays.row (V1 m ρ c main_v0) (V1 m ρ c main_v1) (Layout.merged b s) = Problem.row (x m c) (r m c) b s :=
  funext fun k => congrArg₂ (fun p q : EReal => p + q) (find0 m ρ c b s k) (find1 m ρ c b s k)

/-- So is a normalised row. -/
theorem hrow_eq (b : Fin 2) (s : Fin 4096) :
    Arrays.hrow (V1 m ρ c main_v0) (V1 m ρ c main_v1) (V1 m ρ c main_v2) (Layout.merged b s) = Problem.hrow (x m c) (r m c) (g m c) b s :=
  congrArg₂ Spec.normed (row_eq m ρ c b s) (funext fun k => find2 m ρ c k)

/-! ## What the first region leaves -/

theorem left0 : (W2 m ρ c (Proc.devRef .tc main_v3_0) : S8192x4096.Idx → EReal)
    = fun i => Arrays.row (V1 m ρ c main_v0) (V1 m ρ c main_v1) (i 0) (i 1) := (W2_arr m ρ c 3).trans (Arrays.arr3 (V1 m ρ) c)

theorem left1 : (W2 m ρ c (Proc.devRef .tc main_v3_1) : S8192x4096.Idx → EReal)
    = fun i => Spec.code (Arrays.hrow (V1 m ρ c main_v0) (V1 m ρ c main_v1) (V1 m ρ c main_v2) (i 0)) (i 1) :=
  (W2_arr m ρ c 4).trans (Arrays.arr4 (V1 m ρ) c)

theorem left2 : (W2 m ρ c (Proc.devRef .tc main_v3_2) : S8192x1.Idx → EReal)
    = fun i => Spec.rowScale (Arrays.hrow (V1 m ρ c main_v0) (V1 m ρ c main_v1) (V1 m ρ c main_v2) (i 0)) :=
  (W2_arr m ρ c 5).trans (Arrays.arr5 (V1 m ρ) c)

/-! ## What the second region finds and leaves -/

theorem mfind0 (b : Fin 2) (s k : Fin 4096) : (V3 m ρ c main_v3_1 : S8192x4096.Idx → EReal) (ix2 (Layout.merged b s) k)
    = Spec.code (Problem.hrow (x m c) (r m c) (g m c) b s) k := by
  have h : (V3 m ρ c main_v3_1 : S8192x4096.Idx → EReal) = _ := (W3_of m ρ c main_v3_1 (by decide)).trans (left1 m ρ c)
  refine (congrFun h _).trans ?_
  exact congrArg (fun h => Spec.code h k) (hrow_eq m ρ c b s)

theorem mfind1 : (V3 m ρ c main_arg3 : S12288x4096.Idx → EReal) = w m c := W3_args m ρ c main_arg3 (by decide)

theorem mfind2 (b : Fin 2) (s : Fin 4096) (z : Fin 1) : (V3 m ρ c main_v3_2 : S8192x1.Idx → EReal) (ix2 (Layout.merged b s) z)
    = Spec.rowScale (Problem.hrow (x m c) (r m c) (g m c) b s) := by
  have h : (V3 m ρ c main_v3_2 : S8192x1.Idx → EReal) = _ := (W3_of m ρ c main_v3_2 (by decide)).trans (left2 m ρ c)
  refine (congrFun h _).trans ?_
  exact congrArg Spec.rowScale (hrow_eq m ρ c b s)

theorem mfind3 (j : Fin 12288) : (V3 m ρ c main_v4 : S1x12288.Idx → EReal) (ix2 0 j) = v m c (ix1 j) := by
  have h : (V3 m ρ c main_v4 : S1x12288.Idx → EReal) = shapeCast S1x12288 (v m c) rfl := by
    refine Eq.trans ?_ (congrArg (fun f : S12288.Idx → EReal => shapeCast S1x12288 f rfl) (W2_args m ρ c main_arg4 (by decide)))
    show StableHlo.after hostOps1 (W2 m ρ c) (Proc.devRef .tc main_v4) = _
    after_results
    rfl
  rw [h]
  exact Layout.cast_row _ _ 0 j

theorem mleft : (W4 m ρ c (Proc.devRef .tc main_v5) : S8192x12288.Idx → EReal)
    = fun i => Arrays.prod (V3 m ρ c main_v3_1) (V3 m ρ c main_arg3) (V3 m ρ c main_v3_2) (V3 m ρ c main_v4) (i 0) (i 1) :=
  (W4_arr m ρ c 4).trans (Arrays.arr1 (V3 m ρ) c)

theorem prod_eq (b : Fin 2) (s : Fin 4096) (j : Fin 12288) :
    Arrays.prod (V3 m ρ c main_v3_1) (V3 m ρ c main_arg3) (V3 m ρ c main_v3_2) (V3 m ρ c main_v4) (Layout.merged b s) j
      = Problem.prod (x m c) (r m c) (g m c) (w m c) (v m c) (ix3 b s j) := by
  have h0 := funext fun k => mfind0 m ρ c b s k
  have h1 := funext fun k => congrFun (mfind1 m ρ c) (ix2 j k)
  have h2 := mfind2 m ρ c b s 0
  have h3 := mfind3 m ρ c j
  exact (congrArg₂ (fun q w => Spec.entry q w _ _) h0 h1).trans (congrArg₂ (fun s v => Spec.entry _ _ s v) h2 h3)

/-! ## The results -/

/-- The first result: the scaled product. -/
theorem res6 : (W5 m ρ c (Proc.devRef .tc main_v6) : S2x4096x12288.Idx → EReal)
    = Problem.prod (x m c) (r m c) (g m c) (w m c) (v m c) := by
  have h : (W5 m ρ c (Proc.devRef .tc main_v6) : S2x4096x12288.Idx → EReal)
      = shapeCast S2x4096x12288 (W4 m ρ c (Proc.devRef .tc main_v5) : S8192x12288.Idx → EReal) rfl := by
    show StableHlo.after hostOps2 (W4 m ρ c) (Proc.devRef .tc main_v6) = _
    after_results
    rfl
  refine h.trans (funext fun i => ?_)
  obtain ⟨b, s, j, rfl⟩ : ∃ (b : Fin 2) (s : Fin 4096) (j : Fin 12288), i = ix3 b s j := ⟨i 0, i 1, i 2, eq_ix3 i⟩
  refine (Layout.cast_split _ _ b s j).trans ?_
  exact (congrFun (mleft m ρ c) _).trans (prod_eq m ρ c b s j)

/-- The second result: the residual sum. -/
theorem res7 : (W5 m ρ c (Proc.devRef .tc main_v7) : S2x4096x4096.Idx → EReal) = Problem.sum (x m c) (r m c) := by
  have h : (W5 m ρ c (Proc.devRef .tc main_v7) : S2x4096x4096.Idx → EReal)
      = shapeCast S2x4096x4096 (W4 m ρ c (Proc.devRef .tc main_v3_0) : S8192x4096.Idx → EReal) rfl := by
    show StableHlo.after hostOps2 (W4 m ρ c) (Proc.devRef .tc main_v7) = _
    after_results
    rfl
  refine h.trans (funext fun i => ?_)
  obtain ⟨b, s, k, rfl⟩ : ∃ (b : Fin 2) (s : Fin 4096) (k : Fin 4096), i = ix3 b s k := ⟨i 0, i 1, i 2, eq_ix3 i⟩
  refine (Layout.cast_split _ _ b s k).trans ?_
  have h' : (W4 m ρ c (Proc.devRef .tc main_v3_0) : S8192x4096.Idx → EReal) = _ :=
    (W4_of m ρ c main_v3_0 (by decide)).trans ((W3_of m ρ c main_v3_0 (by decide)).trans (left0 m ρ c))
  exact (congrFun h' _).trans (congrFun (row_eq m ρ c b s) k)

/-- The third result: the codes. -/
theorem res8 : (W5 m ρ c (Proc.devRef .tc main_v8) : S2x4096x4096.Idx → EReal) = Problem.codes (x m c) (r m c) (g m c) := by
  have h : (W5 m ρ c (Proc.devRef .tc main_v8) : S2x4096x4096.Idx → EReal)
      = shapeCast S2x4096x4096 (W4 m ρ c (Proc.devRef .tc main_v3_1) : S8192x4096.Idx → EReal) rfl := by
    show StableHlo.after hostOps2 (W4 m ρ c) (Proc.devRef .tc main_v8) = _
    after_results
    rfl
  refine h.trans (funext fun i => ?_)
  obtain ⟨b, s, k, rfl⟩ : ∃ (b : Fin 2) (s : Fin 4096) (k : Fin 4096), i = ix3 b s k := ⟨i 0, i 1, i 2, eq_ix3 i⟩
  refine (Layout.cast_split _ _ b s k).trans ?_
  have h' : (W4 m ρ c (Proc.devRef .tc main_v3_1) : S8192x4096.Idx → EReal) = (V3 m ρ c main_v3_1 : S8192x4096.Idx → EReal) :=
    W4_of m ρ c main_v3_1 (by decide)
  exact (congrFun h' _).trans (mfind0 m ρ c b s k)

/-- The fourth result: the scales. -/
theorem res9 : (W5 m ρ c (Proc.devRef .tc main_v9) : S2x4096x1.Idx → EReal) = Problem.scales (x m c) (r m c) (g m c) := by
  have h : (W5 m ρ c (Proc.devRef .tc main_v9) : S2x4096x1.Idx → EReal)
      = shapeCast S2x4096x1 (W4 m ρ c (Proc.devRef .tc main_v3_2) : S8192x1.Idx → EReal) rfl := by
    show StableHlo.after hostOps2 (W4 m ρ c) (Proc.devRef .tc main_v9) = _
    after_results
    rfl
  refine h.trans (funext fun i => ?_)
  obtain ⟨b, s, k, rfl⟩ : ∃ (b : Fin 2) (s : Fin 4096) (k : Fin 1), i = ix3 b s k := ⟨i 0, i 1, i 2, eq_ix3 i⟩
  refine (Layout.cast_split _ _ b s k).trans ?_
  have h' : (W4 m ρ c (Proc.devRef .tc main_v3_2) : S8192x1.Idx → EReal) = (V3 m ρ c main_v3_2 : S8192x1.Idx → EReal) :=
    W4_of m ρ c main_v3_2 (by decide)
  exact (congrFun h' _).trans (mfind2 m ρ c b s k)

end Cert.KernelIdeal.Value

end
-- ==== Proof.RefExponent.lean ====
/-
  The exponent of the quantiser as the reference states it: the least exponent among `-125 … 128`
  whose power of two exceeds the argument, `0` for an argument below the least normal float or
  infinite. It names the same powers of two as the kernel's binary search (Exponent.lean), so the
  scale and its inverse agree for every argument.
-/
module

public import proofs.«01_k».proof.Proof.Exponent

@[expose] public section

noncomputable section

namespace Cert.Exponent

open Idealize.ShloMosaic

/-! ## The reference's scalar functions -/

/-- The candidate exponent number `j`: `j - 125`. -/
def cand (j : Fin 254) : EReal :=
  (((BitVec.ofNat 32 (j : ℕ)).toInt : ℝ) : EReal) - Ideal.ofBits .f32 0x42FA0000#32

/-- The candidate where its power of two exceeds `t`, else 129. -/
def above (t : EReal) (j : Fin 254) : EReal :=
  Scalar.select (Ideal.cmp .olt t (Ideal.pow (Ideal.ofBits .f32 0x40000000#32) (cand j))) (cand j)
    (Ideal.ofBits .f32 0x43010000#32)

/-- The least of those. -/
def least (t : EReal) : EReal := Finset.univ.fold min (Ideal.ofBits .f32 0x7F800000#32) (above t)

/-- The reference's exponent. -/
def refExpo (a t : EReal) : EReal :=
  Scalar.select (Ideal.cmp .oeq a (Ideal.ofBits .f32 0x00000000#32)) (Ideal.ofBits .f32 0x00000000#32)
    (Scalar.select (IntOp.andi (Ideal.cmp .oge t (Ideal.ofBits .f32 0x00800000#32)) (Ideal.cmp .olt t (Ideal.ofBits .f32 0x7F800000#32)))
      (least t) (Ideal.ofBits .f32 0x00000000#32))

/-- The reference's power of two: flushed below `-126`, infinite above `127`. -/
def refPow (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32)
      (Ideal.pow (Ideal.ofBits .f32 0x40000000#32) e))

/-! ## The constants -/

theorem c125 : Ideal.ofBits .f32 0x42FA0000#32 = ((125 : ℝ) : EReal) := by
  simp [Ideal.ofBits, Ideal.ieee, -EReal.coe_mul]; norm_num
theorem c129 : Ideal.ofBits .f32 0x43010000#32 = ((129 : ℝ) : EReal) := by
  simp [Ideal.ofBits, Ideal.ieee, -EReal.coe_mul]; norm_num
theorem c127 : Ideal.ofBits .f32 0x42FE0000#32 = ((127 : ℝ) : EReal) := by
  simp [Ideal.ofBits, Ideal.ieee, -EReal.coe_mul]; norm_num
theorem cm126 : Ideal.ofBits .f32 0xC2FC0000#32 = ((-126 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem ctop : Ideal.ofBits .f32 0x7F800000#32 = ⊤ := by
  simp [Ideal.ofBits, Ideal.ieee]
theorem cnormal : Ideal.ofBits .f32 0x00800000#32 = wordPow (BitVec.ofNat 32 1) := rfl

/-! ## The candidates -/

theorem toInt_small : ∀ j : Fin 254, (BitVec.ofNat 32 (j : ℕ)).toInt = ((j : ℕ) : ℤ) := by decide +kernel

theorem cand_eq (j : Fin 254) : cand j = ((((j : ℕ) : ℝ) - 125 : ℝ) : EReal) := by
  rw [cand, toInt_small, c125, ← EReal.coe_sub]; norm_num

/-- Two to an integral exponent, as the reference computes it. -/
theorem pow_int (z : ℤ) : Ideal.pow ((2 : ℝ) : EReal) (((z : ℤ) : ℝ) : EReal) = (((2 : ℝ) ^ z : ℝ) : EReal) := by
  rw [Ideal.pow_coe_coe]
  congr 1
  exact Real.rpow_intCast 2 z

/-- Candidate `j`'s power of two is the word of biased exponent `j + 2`, for `j + 2 ≤ 254`. -/
theorem pow_cand (j : Fin 254) (h : (j : ℕ) + 2 ≤ 254) :
    Ideal.pow (Ideal.ofBits .f32 0x40000000#32) (cand j) = wordPow (BitVec.ofNat 32 ((j : ℕ) + 2)) := by
  rw [c2, cand_eq, wordPow_of _ (by omega) h]
  rw [show (((j : ℕ) : ℝ) - 125 : ℝ) = ((((j : ℕ) : ℤ) - 125 : ℤ) : ℝ) by push_cast; ring, pow_int]
  congr 2; push_cast; ring

/-- The least candidate for `1 ≤ reach t ≤ 253`: the exponent `reach t - 126`. -/
theorem least_eq (t : EReal) (h1 : 1 ≤ reach t) (h2 : reach t ≤ 253) :
    least t = ((((reach t : ℕ) : ℝ) - 126 : ℝ) : EReal) := by
  have hcmp : ∀ j : Fin 254, (j : ℕ) + 2 ≤ 254 → above t j = if (j : ℕ) + 2 ≤ reach t then ((129 : ℝ) : EReal) else cand j := by
    intro j hj
    have h := wordPow_le_iff t ((j : ℕ) + 2) (by omega) (by omega)
    simp only [above, pow_cand j hj, Ideal.cmp, select_ofBool, decide_eq_true_eq, c129]
    by_cases hb : (j : ℕ) + 2 ≤ reach t
    · rw [if_pos hb, if_neg (not_lt.mpr (h.mpr hb))]
    · rw [if_neg hb, if_pos (not_le.mp fun h' => hb (h.mp h'))]
  have hall : ∀ j : Fin 254, ((((reach t : ℕ) : ℝ) - 126 : ℝ) : EReal) ≤ above t j := by
    intro j
    by_cases hj : (j : ℕ) + 2 ≤ 254
    · rw [hcmp j hj]
      split
      · apply EReal.coe_le_coe_iff.mpr
        have : ((reach t : ℕ) : ℝ) ≤ 253 := by exact_mod_cast h2
        linarith
      · rw [cand_eq]
        apply EReal.coe_le_coe_iff.mpr
        have : ((reach t : ℕ) : ℝ) ≤ ((j : ℕ) : ℝ) + 1 := by
          have : reach t ≤ (j : ℕ) + 1 := by omega
          exact_mod_cast this
        linarith
    · simp only [above, Ideal.cmp, select_ofBool, decide_eq_true_eq, c129]
      have hR : ((reach t : ℕ) : ℝ) ≤ 253 := by exact_mod_cast h2
      split
      · rw [cand_eq]
        apply EReal.coe_le_coe_iff.mpr
        have : (253 : ℝ) ≤ ((j : ℕ) : ℝ) := by
          have : 253 ≤ (j : ℕ) := by omega
          exact_mod_cast this
        linarith
      · apply EReal.coe_le_coe_iff.mpr
        linarith
  apply le_antisymm
  · rw [least, Finset.fold_min_le]
    right
    refine ⟨⟨reach t - 1, by omega⟩, Finset.mem_univ _, ?_⟩
    rw [hcmp _ (by simp only [Fin.val_mk]; omega), if_neg (by simp only [Fin.val_mk]; omega), cand_eq]
    apply EReal.coe_le_coe_iff.mpr
    simp only [Fin.val_mk]
    rw [Nat.cast_sub h1]; push_cast; linarith
  · rw [least, Finset.le_fold_min]
    exact ⟨by rw [ctop]; exact le_top, fun j _ => hall j⟩

/-- The least candidate for `reach t = 254` is 128 or 129: above 127 either way. -/
theorem least_254 (t : EReal) (h : reach t = 254) : least t = ((128 : ℝ) : EReal) ∨ least t = ((129 : ℝ) : EReal) := by
  have h129 : ∀ j : Fin 254, (j : ℕ) + 2 ≤ 254 → above t j = ((129 : ℝ) : EReal) := by
    intro j hj
    have h' := wordPow_le_iff t ((j : ℕ) + 2) (by omega) (by omega)
    simp only [above, pow_cand j hj, Ideal.cmp, select_ofBool, decide_eq_true_eq, c129]
    rw [if_neg (not_lt.mpr (h'.mpr (by omega)))]
  have hlast : above t ⟨253, by omega⟩ = ((128 : ℝ) : EReal) ∨ above t ⟨253, by omega⟩ = ((129 : ℝ) : EReal) := by
    simp only [above, Ideal.cmp, select_ofBool, decide_eq_true_eq, c129]
    split
    · left; rw [cand_eq]; norm_num
    · right; rfl
  have key : least t = above t ⟨253, by omega⟩ := by
    apply le_antisymm
    · rw [least, Finset.fold_min_le]
      exact Or.inr ⟨_, Finset.mem_univ _, le_rfl⟩
    · rw [least, Finset.le_fold_min]
      refine ⟨by rw [ctop]; exact le_top, fun j _ => ?_⟩
      by_cases hj : (j : ℕ) + 2 ≤ 254
      · rw [h129 j hj]
        rcases hlast with h' | h' <;> rw [h'] <;> apply EReal.coe_le_coe_iff.mpr <;> norm_num
      · have : j = ⟨253, by omega⟩ := Fin.ext (by simp only [Fin.val_mk]; omega)
        rw [this]
  rw [key]; exact hlast

/-! ## The reference's power at a real exponent -/

theorem refPow_top (x : ℝ) (h : 127 < x) : refPow (x : EReal) = ⊤ := by
  simp only [refPow, Ideal.cmp, select_ofBool, decide_eq_true_eq, c127, ctop]
  rw [if_pos (EReal.coe_lt_coe_iff.mpr h)]

theorem refPow_flush (x : ℝ) (h : x < -126) : refPow (x : EReal) = 0 := by
  simp only [refPow, Ideal.cmp, select_ofBool, decide_eq_true_eq, c127, cm126, zero_word]
  rw [if_neg (not_lt.mpr (EReal.coe_le_coe_iff.mpr (by linarith))), if_pos (EReal.coe_lt_coe_iff.mpr h)]

theorem refPow_mid (z : ℤ) (h1 : -126 ≤ z) (h2 : z ≤ 127) : refPow (((z : ℤ) : ℝ) : EReal) = (((2 : ℝ) ^ z : ℝ) : EReal) := by
  have h1' : (-126 : ℝ) ≤ (z : ℝ) := by exact_mod_cast h1
  have h2' : (z : ℝ) ≤ (127 : ℝ) := by exact_mod_cast h2
  simp only [refPow, Ideal.cmp, select_ofBool, decide_eq_true_eq, c127, cm126, c2]
  rw [if_neg (not_lt.mpr (EReal.coe_le_coe_iff.mpr h2')), if_neg (not_lt.mpr (EReal.coe_le_coe_iff.mpr h1')), pow_int]

/-! ## The two agree -/

theorem refPow_zero : refPow 0 = 1 ∧ refPow (-0) = 1 := by
  have h := refPow_mid 0 (by norm_num) (by norm_num)
  norm_num at h
  exact ⟨h, by rw [neg_zero]; exact h⟩

theorem and_ofBool (p q : Bool) : IntOp.andi (BitVec.ofBool p) (BitVec.ofBool q) = BitVec.ofBool (p && q) := by
  cases p <;> cases q <;> rfl

/-- The argument is below the least normal float exactly when no power of two is reached, and infinite exactly when all are. -/
theorem reach_pos_iff (t : EReal) : Ideal.ofBits .f32 0x00800000#32 ≤ t ↔ reach t ≠ 0 := by
  have h := wordPow_le_iff t 1 (by omega) (by omega)
  rw [cnormal, h]; omega

theorem reach_lt_iff (t : EReal) : t < Ideal.ofBits .f32 0x7F800000#32 ↔ reach t ≠ 255 := by
  have h := wordPow_le_iff t 255 (by omega) (by omega)
  have hl := reach_le t
  rw [show (BitVec.ofNat 32 255) = 255#32 from rfl, wordPow_top] at h
  rw [ctop, ← not_le, h]; omega

/-- THE EXPONENTS AGREE: the reference's scale and inverse are the kernel's, for every row maximum `a` and every `t`. -/
theorem scale_eq (a t : EReal) : refPow (refExpo a t) = scale a t ∧ refPow (-(refExpo a t)) = invScale a t := by
  have he : refExpo a t = if a = 0 ∨ reach t = 0 ∨ reach t = 255 then 0 else least t := by
    simp only [refExpo, Ideal.cmp, select_ofBool, and_ofBool, decide_eq_true_eq, zero_word, Bool.and_eq_true, ge_iff_le, reach_pos_iff, reach_lt_iff]
    by_cases ha : a = 0
    · simp [ha]
    · by_cases h0 : reach t = 0
      · simp [ha, h0]
      · by_cases h1 : reach t = 255
        · simp [ha, h1]
        · simp [ha, h0, h1]
  by_cases hc : a = 0 ∨ reach t = 0 ∨ reach t = 255
  · rw [he, if_pos hc, (scale_one a t hc).1, (scale_one a t hc).2]
    exact refPow_zero
  · rw [he, if_neg hc]
    have ha : a ≠ 0 := fun h => hc (Or.inl h)
    have h0 : reach t ≠ 0 := fun h => hc (Or.inr (Or.inl h))
    have h1 : reach t ≠ 255 := fun h => hc (Or.inr (Or.inr h))
    have hl := reach_le t
    obtain ⟨hs, hi⟩ := scale_words a t ha h0 h1
    rw [hs, hi]
    by_cases h254 : reach t = 254
    · rw [h254]
      refine ⟨?_, ?_⟩
      · rw [show BitVec.ofNat 32 (254 + 1) = 255#32 from rfl, wordPow_top]
        rcases least_254 t h254 with h | h <;> rw [h] <;> exact refPow_top _ (by norm_num)
      · rw [show BitVec.ofNat 32 (253 - 254) = 0#32 from rfl, wordPow_zero]
        rcases least_254 t h254 with h | h <;> rw [h, ← EReal.coe_neg] <;> exact refPow_flush _ (by norm_num)
    · rw [least_eq t (by omega) (by omega)]
      refine ⟨?_, ?_⟩
      · rw [show (((reach t : ℕ) : ℝ) - 126 : ℝ) = ((((reach t : ℕ) : ℤ) - 126 : ℤ) : ℝ) by push_cast; ring]
        rw [refPow_mid _ (by omega) (by omega), wordPow_of _ (by omega) (by omega)]
        congr 2; push_cast; ring
      · rw [← EReal.coe_neg]
        by_cases h253 : reach t = 253
        · rw [h253, show BitVec.ofNat 32 (253 - 253) = 0#32 from rfl, wordPow_zero]
          exact refPow_flush _ (by norm_num)
        · rw [show (-(((reach t : ℕ) : ℝ) - 126) : ℝ) = (((126 : ℤ) - ((reach t : ℕ) : ℤ) : ℤ) : ℝ) by push_cast; ring]
          rw [refPow_mid _ (by omega) (by omega), wordPow_of _ (by omega) (by omega)]
          congr 2
          rw [Nat.cast_sub (by omega : reach t ≤ 253)]; push_cast; ring

end Cert.Exponent

end
-- ==== Proof.RefHost.lean ====
/-
  The arrays the reference's host operations leave for its one call, as expressions of the arguments: the residual sum, the
  normalised array, the rows' exponents, the two powers of two, and the codes.
-/
module

public import proofs.«01_k».proof.Proof.Gen.ReferenceIdeal.Frame
public import Idealize.ShloMosaic.Lib.StableHlo.RunRead
public import proofs.«01_k».proof.Proof.Problem
public import proofs.«01_k».proof.Proof.Layout
public import proofs.«01_k».proof.Proof.RefExponent

@[expose] public section

set_option maxRecDepth 16384

noncomputable section

namespace Cert.ReferenceIdeal.Lines

open Cert.ReferenceIdeal Cert.ReferenceIdeal.Gen
open Idealize.ShloMosaic Idealize.ShloMosaic.TcCoe Idealize.ShloMosaic.StableHlo

/-! ## The expressions -/

/-- A scalar constant at every row. -/
abbrev col (w : BitVec 32) : FVec Ideal S2x4096x1 .f32 := broadcastInDim S2x4096x1 ![] bcast_S_S2x4096x1 (constant (F := Ideal) S_ .f32 w)

/-- A scalar constant at every candidate of every row. -/
abbrev cols (w : BitVec 32) : FVec Ideal S2x4096x254 .f32 := broadcastInDim S2x4096x254 ![] bcast_S_S2x4096x254 (constant (F := Ideal) S_ .f32 w)

/-- The rows' mean squares under the inverse square root. -/
def inv (s : FVec Ideal S2x4096x4096 .f32) : FVec Ideal S2x4096x1 .f32 :=
  Host.rsqrt (addf (Host.divf (broadcastInDim S2x4096x1 ![0, 1] bcast_S2x4096_S2x4096x1_0_1
    (Host.reduceAdd (mulf s s) (constant (F := Ideal) S_ .f32 0x00000000#32) reducesTo_S2x4096x4096_S2x4096_d2 h_S_)) (col 0x45800000#32)) (col 0x358637BD#32))

/-- The normalised array. -/
def normed (s : FVec Ideal S2x4096x4096 .f32) (g : FVec Ideal S4096 .f32) : FVec Ideal S2x4096x4096 .f32 :=
  mulf (mulf s (broadcastInDim S2x4096x4096 ![0, 1, 2] bcast_S2x4096x1_S2x4096x4096_0_1_2 (inv s)))
    (broadcastInDim S2x4096x4096 ![0, 1, 2] bcast_S1x1x4096_S2x4096x4096_0_1_2 (broadcastInDim S1x1x4096 ![2] bcast_S4096_S1x1x4096_2 g))

/-- The rows' largest magnitudes. -/
def amax (h : FVec Ideal S2x4096x4096 .f32) : FVec Ideal S2x4096x1 .f32 :=
  broadcastInDim S2x4096x1 ![0, 1] bcast_S2x4096_S2x4096x1_0_1
    (Host.reduce FloatOps.maximumf (Host.absf h) (constant (F := Ideal) S_ .f32 0xFF800000#32) reducesTo_S2x4096x4096_S2x4096_d2 h_S_)

/-- Their quotients by 448. -/
def arg (a : FVec Ideal S2x4096x1 .f32) : FVec Ideal S2x4096x1 .f32 := mulf a (col 0x3B124925#32)

/-- The candidate exponents. -/
def cands : FVec Ideal S2x4096x254 .f32 := subf (sitofp .f32 (iotaInDim S2x4096x254 32 2)) (cols 0x42FA0000#32)

/-- The least candidate whose power of two exceeds the row's quotient. -/
def least (t : FVec Ideal S2x4096x1 .f32) : FVec Ideal S2x4096x1 .f32 :=
  broadcastInDim S2x4096x1 ![0, 1] bcast_S2x4096_S2x4096x1_0_1
    (Host.reduce FloatOps.minimumf
      (select (cmpf .olt (broadcastInDim S2x4096x254 ![0, 1, 2] bcast_S2x4096x1_S2x4096x254_0_1_2 t) (Host.powf (cols 0x40000000#32) cands)) cands (cols 0x43010000#32))
      (constant (F := Ideal) S_ .f32 0x7F800000#32) reducesTo_S2x4096x254_S2x4096_d2 h_S_)

/-- The rows' exponents. -/
def expo (a t : FVec Ideal S2x4096x1 .f32) : FVec Ideal S2x4096x1 .f32 :=
  select (cmpf .oeq a (col 0x00000000#32)) (col 0x00000000#32)
    (select (andi (cmpf .oge t (col 0x00800000#32)) (cmpf .olt t (col 0x7F800000#32))) (least t) (col 0x00000000#32))

/-- Two to the power of an array. -/
def pow2 (e : FVec Ideal S2x4096x1 .f32) : FVec Ideal S2x4096x1 .f32 :=
  select (cmpf .ogt e (col 0x42FE0000#32)) (col 0x7F800000#32)
    (select (cmpf .olt e (col 0xC2FC0000#32)) (col 0x00000000#32) (Host.powf (col 0x40000000#32) e))

/-- An array clamped between two scalars and cast to the codes' format. -/
def clip (y : FVec Ideal S2x4096x4096 .f32) (lo hi : FVec Ideal S_ .f32) : FVec Ideal S2x4096x4096 .fp8e4m3 :=
  Host.convertf .fp8e4m3 (minimumf (broadcastInDim S2x4096x4096 ![] bcast_S_S2x4096x4096 hi)
    (maximumf (broadcastInDim S2x4096x4096 ![] bcast_S_S2x4096x4096 lo) y))

/-- The codes of an array with its rows' inverse scales. -/
def codes (h : FVec Ideal S2x4096x4096 .f32) (i : FVec Ideal S2x4096x1 .f32) : FVec Ideal S2x4096x4096 .fp8e4m3 :=
  clip (mulf h (broadcastInDim S2x4096x4096 ![0, 1, 2] bcast_S2x4096x1_S2x4096x4096_0_1_2 i))
    (constant (F := Ideal) S_ .f32 0xC3E00000#32) (constant (F := Ideal) S_ .f32 0x43E00000#32)

/-! ## The reads -/

variable (m : (ℓ : Loc nD τ sig) → Buf (Elt Ideal) ℓ) (c : Dev nD)

/-- The residual sum of the arguments. -/
abbrev s : FVec Ideal S2x4096x4096 .f32 :=
  addf (F := Ideal) (m ((c : Thread nD τ).loc main_arg0) : FVec Ideal S2x4096x4096 .f32) (m ((c : Thread nD τ).loc main_arg1) : FVec Ideal S2x4096x4096 .f32)

/-- The normalised array of the arguments. -/
abbrev h : FVec Ideal S2x4096x4096 .f32 := normed (s m c) (m ((c : Thread nD τ).loc main_arg2))

theorem V_v0 : (V m c main_v0 : FVec Ideal S2x4096x4096 .f32) = s m c := by
  show StableHlo.after (List.flatten [hostOps0, hostOps0_1, hostOps0_2]) (fun b => m (c, b)) (Proc.devRef .tc main_v0) = _
  after_reads_simp

theorem V_v50 : (V m c main_v50 : FVec Ideal S2x4096x1 .f32) = pow2 (expo (amax (h m c)) (arg (amax (h m c)))) := by
  show StableHlo.after (List.flatten [hostOps0, hostOps0_1, hostOps0_2]) (fun b => m (c, b)) (Proc.devRef .tc main_v50) = _
  after_reads_simp
  rfl

/-- The contents after the first line of host operations. -/
abbrev W (b : DevRef τ sig) := StableHlo.after (hostOps0 (F := Ideal)) (fun b => m (c, b)) b

theorem W_v13 : (W m c (Proc.devRef .tc main_v13) : FVec Ideal S2x4096x4096 .f32) = h m c := by
  after_reads_simp
  rfl

theorem W_v61 : (W m c (Proc.devRef .tc main_v61) : FVec Ideal S2x4096x1 .f32) = pow2 (Host.negf (expo (amax (h m c)) (arg (amax (h m c))))) := by
  after_reads_simp
  rfl

theorem W_v63 : (W m c (Proc.devRef .tc main_v63) : FVec Ideal S2x4096x4096 .f32)
    = (mulf (F := Ideal) (W m c (Proc.devRef .tc main_v13) : FVec Ideal S2x4096x4096 .f32) (broadcastInDim S2x4096x4096 ![0, 1, 2] bcast_S2x4096x1_S2x4096x4096_0_1_2
        (W m c (Proc.devRef .tc main_v61) : FVec Ideal S2x4096x1 .f32)) : FVec Ideal S2x4096x4096 .f32) := by
  after_reads_simp

theorem W_cst_23 : (W m c (Proc.devRef .tc main_cst_23) : FVec Ideal S_ .f32) = constant (F := Ideal) S_ .f32 0xC3E00000#32 := by
  after_reads_simp

theorem W_cst_24 : (W m c (Proc.devRef .tc main_cst_24) : FVec Ideal S_ .f32) = constant (F := Ideal) S_ .f32 0x43E00000#32 := by
  after_reads_simp

/-- The last lines, from any contents: the clamp and the cast. -/
theorem clamp (U : Valuation τ sig (Elt Ideal)) :
    (StableHlo.after hostOps0_2 (StableHlo.after hostOps0_1 U) (Proc.devRef .tc main_v65) : FVec Ideal S2x4096x4096 .fp8e4m3)
      = clip (U (Proc.devRef .tc main_v63)) (U (Proc.devRef .tc main_cst_23)) (U (Proc.devRef .tc main_cst_24)) := by
  after_reads_simp
  rfl

theorem V_v65 : (V m c main_v65 : FVec Ideal S2x4096x4096 .fp8e4m3) = codes (h m c) (pow2 (Host.negf (expo (amax (h m c)) (arg (amax (h m c)))))) := by
  have e : List.flatten [hostOps0 (F := Ideal), hostOps0_1, hostOps0_2] = hostOps0 ++ (hostOps0_1 ++ hostOps0_2) := by
    rw [List.flatten_cons, List.flatten_cons, List.flatten_cons, List.flatten_nil, List.append_nil]
  have e' : (V m c main_v65 : FVec Ideal S2x4096x4096 .fp8e4m3)
      = StableHlo.after hostOps0_2 (StableHlo.after hostOps0_1 (W m c)) (Proc.devRef .tc main_v65) := by
    show StableHlo.after (List.flatten [hostOps0, hostOps0_1, hostOps0_2]) (fun b => m (c, b)) (Proc.devRef .tc main_v65) = _
    rw [e, StableHlo.after_append, StableHlo.after_append]
  rw [e', clamp, W_cst_23, W_cst_24, W_v63, W_v13, W_v61]
  rfl

end Cert.ReferenceIdeal.Lines

end
-- ==== Proof.RefRows.lean ====
/-
  The reference's host arrays read at an entry: its rows are the rows of Spec.lean, its two powers of two the scale and
  its inverse, and its codes the rows' codes.
-/
module

public import proofs.«01_k».proof.Proof.RefHost

@[expose] public section

noncomputable section

namespace Cert.ReferenceIdeal.Rows

open Cert.ReferenceIdeal Cert.ReferenceIdeal.Gen
open Idealize.ShloMosaic Idealize.ShloMosaic.TcCoe Idealize.ShloMosaic.ValueIdx

variable (x r : FVec Ideal S2x4096x4096 .f32) (g : FVec Ideal S4096 .f32) (b : Fin 2) (s : Fin 4096)

/-! ## The broadcasts of the gain, and the reduced axes -/

theorem gain_lead (h : S4096.BroadcastsInDim S1x1x4096 ![2]) (k : Fin 4096) :
    broadcastInDim S1x1x4096 ![2] h g (ix3 0 0 k) = g (ix1 k) := by
  refine broadcastInDim_apply _ h g _ _ fun a => ?_
  match a with
  | ⟨0, _⟩ => rfl

theorem gain_all (y : FVec Ideal S1x1x4096 .f32) (h : S1x1x4096.BroadcastsInDim S2x4096x4096 ![0, 1, 2]) (k : Fin 4096) :
    broadcastInDim S2x4096x4096 ![0, 1, 2] h y (ix3 b s k) = y (ix3 0 0 k) := by
  refine broadcastInDim_apply _ h y _ _ fun a => ?_
  match a with
  | ⟨0, _⟩ => rfl
  | ⟨1, _⟩ => rfl
  | ⟨2, _⟩ => rfl

theorem lift_row (h : S2x4096x4096.Reduces [2] S2x4096) (k : Fin 4096) : h.lift (ix2 b s) k = ix3 b s k := by
  funext a
  match a with
  | ⟨0, _⟩ => rfl
  | ⟨1, _⟩ => rfl
  | ⟨2, _⟩ => rfl

theorem lift_cand (h : S2x4096x254.Reduces [2] S2x4096) (k : Fin 254) : h.lift (ix2 b s) k = ix3 b s k := by
  funext a
  match a with
  | ⟨0, _⟩ => rfl
  | ⟨1, _⟩ => rfl
  | ⟨2, _⟩ => rfl

theorem reduces_row : S2x4096x4096.Reduces [2] S2x4096 := by decide
theorem reduces_cand : S2x4096x254.Reduces [2] S2x4096 := by decide

theorem col_apply (w : BitVec 32) (j : S2x4096x1.Idx) : Lines.col w j = Ideal.ofBits .f32 w := rfl
theorem cols_apply (w : BitVec 32) (j : S2x4096x254.Idx) : Lines.cols w j = Ideal.ofBits .f32 w := rfl

/-! ## The normalised rows -/

theorem inv_apply (y : FVec Ideal S2x4096x4096 .f32) (z : Fin 1) : Lines.inv y (ix3 b s z) = Spec.invRms (fun k => y (ix3 b s k)) := by
  unfold Lines.inv Spec.invRms
  show Ideal.rsqrt (Ideal.div (broadcastInDim (s := S2x4096) S2x4096x1 ![0, 1] _ _ (ix3 b s z)) (Ideal.ofBits .f32 0x45800000#32) + Ideal.ofBits .f32 0x358637BD#32) = _
  refine congrArg (fun e => Ideal.rsqrt (Ideal.div e (Ideal.ofBits .f32 0x45800000#32) + Ideal.ofBits .f32 0x358637BD#32)) ?_
  refine (Layout.hbcast_addLast _ _ b s z).trans ?_
  refine (hostReduceAdd_apply _ _ _ _ _).trans ?_
  refine (Ideal.hostReduceAdd_single _ reduces_row _ _ _).trans ?_
  refine (congrArg₂ (fun p q : EReal => p + q) (Ideal.ofBits_zero_f32) (Finset.sum_congr rfl fun k _ => ?_)).trans (zero_add _)
  exact congrArg (fun i => y i * y i) (lift_row b s reduces_row k)

theorem normed_apply (y : FVec Ideal S2x4096x4096 .f32) (k : Fin 4096) :
    Lines.normed y g (ix3 b s k) = Spec.normed (fun k => y (ix3 b s k)) (fun k => g (ix1 k)) k := by
  unfold Lines.normed Spec.normed
  rw [mulf_apply, mulf_apply]
  refine congrArg₂ (fun p q : EReal => p * q) (congrArg (fun p : EReal => y (ix3 b s k) * p) ?_) ?_
  · exact (Layout.hbcast_last _ _ b s k).trans (inv_apply b s y 0)
  · exact (gain_all b s _ _ k).trans (gain_lead g _ k)

theorem amax_apply (h : FVec Ideal S2x4096x4096 .f32) (z : Fin 1) :
    Lines.amax h (ix3 b s z) = Spec.absMax (fun k => h (ix3 b s k)) := by
  unfold Lines.amax Spec.absMax
  refine (Layout.hbcast_addLast _ _ b s z).trans ?_
  refine (Host.reduce_eq_fold_single (FloatOps.maximumf (F := Ideal) (φ := .f32)) _ _ _ reduces_row _ _).trans ?_
  refine Finset.fold_congr fun k _ => ?_
  exact congrArg (fun i => max (h i) (-(h i))) (lift_row b s reduces_row k)

theorem arg_apply (a : FVec Ideal S2x4096x1 .f32) (i : S2x4096x1.Idx) : Lines.arg a i = a i * Ideal.ofBits .f32 0x3B124925#32 := rfl

/-! ## The exponents -/

theorem cands_apply (j : Fin 254) : Lines.cands (ix3 b s j) = Exponent.cand j := rfl

theorem above_apply (t : FVec Ideal S2x4096x1 .f32) (j : Fin 254) :
    select (cmpf .olt (broadcastInDim S2x4096x254 ![0, 1, 2] bcast_S2x4096x1_S2x4096x254_0_1_2 t) (Host.powf (Lines.cols 0x40000000#32) Lines.cands))
      Lines.cands (Lines.cols 0x43010000#32) (ix3 b s j) = Exponent.above (t (ix3 b s 0)) j :=
  congrArg (fun e => Exponent.above e j) (Layout.hbcast_last t bcast_S2x4096x1_S2x4096x254_0_1_2 b s j)

theorem least_apply (t : FVec Ideal S2x4096x1 .f32) (z : Fin 1) : Lines.least t (ix3 b s z) = Exponent.least (t (ix3 b s 0)) := by
  unfold Lines.least Exponent.least
  refine (Layout.hbcast_addLast _ _ b s z).trans ?_
  refine (Host.reduce_eq_fold_single (FloatOps.minimumf (F := Ideal) (φ := .f32)) _ _ _ reduces_cand _ _).trans ?_
  refine Finset.fold_congr fun k _ => ?_
  exact (congrArg _ (lift_cand b s reduces_cand k)).trans (above_apply b s t k)

theorem expo_apply (a t : FVec Ideal S2x4096x1 .f32) : Lines.expo a t (ix3 b s 0) = Exponent.refExpo (a (ix3 b s 0)) (t (ix3 b s 0)) := by
  unfold Lines.expo Exponent.refExpo
  rw [← least_apply b s t 0]
  rfl

theorem pow2_apply (e : FVec Ideal S2x4096x1 .f32) (i : S2x4096x1.Idx) : Lines.pow2 e i = Exponent.refPow (e i) := rfl

theorem negf_apply' (e : FVec Ideal S2x4096x1 .f32) (i : S2x4096x1.Idx) : Host.negf e i = -(e i) := rfl

/-! ## The two powers of two -/

/-- The exponent at a row, of the row's largest magnitude and its quotient. -/
theorem expo_row (h : FVec Ideal S2x4096x4096 .f32) : Lines.expo (Lines.amax h) (Lines.arg (Lines.amax h)) (ix3 b s 0)
    = Exponent.refExpo (Spec.absMax fun k => h (ix3 b s k)) (Spec.stepArg fun k => h (ix3 b s k)) := by
  rw [expo_apply, arg_apply, amax_apply]
  rfl

/-- The scale of a row. -/
theorem scale_row (h : FVec Ideal S2x4096x4096 .f32) : Lines.pow2 (Lines.expo (Lines.amax h) (Lines.arg (Lines.amax h))) (ix3 b s 0)
    = Spec.rowScale fun k => h (ix3 b s k) := by
  rw [pow2_apply, expo_row]
  exact (Exponent.scale_eq _ _).1

/-- Its inverse. -/
theorem inv_row (h : FVec Ideal S2x4096x4096 .f32) : Lines.pow2 (Host.negf (Lines.expo (Lines.amax h) (Lines.arg (Lines.amax h)))) (ix3 b s 0)
    = Spec.rowInv fun k => h (ix3 b s k) := by
  rw [pow2_apply, negf_apply', expo_row]
  exact (Exponent.scale_eq _ _).2

/-! ## The codes -/

theorem clip_apply (y : FVec Ideal S2x4096x4096 .f32) (lo hi : BitVec 32) (i : S2x4096x4096.Idx) :
    Lines.clip y (constant (F := Ideal) S_ .f32 lo) (constant (F := Ideal) S_ .f32 hi) i = min (Ideal.ofBits .f32 hi) (max (Ideal.ofBits .f32 lo) (y i)) := rfl

/-- The codes of a row. -/
theorem codes_row (h : FVec Ideal S2x4096x4096 .f32) (k : Fin 4096) :
    Lines.codes h (Lines.pow2 (Host.negf (Lines.expo (Lines.amax h) (Lines.arg (Lines.amax h))))) (ix3 b s k) = Spec.code (fun k => h (ix3 b s k)) k := by
  unfold Lines.codes Spec.code
  rw [clip_apply, mulf_apply]
  refine congrArg (fun p : EReal => min (Ideal.ofBits .f32 0x43E00000#32) (max (Ideal.ofBits .f32 0xC3E00000#32) (h (ix3 b s k) * p))) ?_
  exact (Layout.hbcast_last _ _ b s k).trans (inv_row b s h)

end Cert.ReferenceIdeal.Rows

end
-- ==== Proof.RefBlock.lean ====
/-
  What the reference's one call computes from the arrays it is given, read at an entry: the product of the codes with
  the weights, times both scales.
-/
module

public import proofs.«01_k».proof.Proof.RefRows

@[expose] public section

noncomputable section

namespace Cert.ReferenceIdeal.Block

open Cert.ReferenceIdeal Cert.ReferenceIdeal.Gen
open Idealize.ShloMosaic Idealize.ShloMosaic.TcCoe Idealize.ShloMosaic.ValueIdx
open scoped BigOperators

variable (q : Vec Ideal S2x4096x4096 .fp8e4m3) (w : Vec Ideal S12288x4096 .fp8e4m3) (sc : Vec Ideal S2x4096x1 .f32) (v : Vec Ideal S12288 .f32)

/-- The product at an entry: a row of the left array against a row of the weights. -/
theorem dot_apply (q : FVec Ideal S2x4096x4096 .fp8e4m3) (w : FVec Ideal S12288x4096 .fp8e4m3) (b : Fin 2) (s : Fin 4096) (j : Fin 12288) :
    matmul dot_S2x4096x4096_S12288x4096_S2x4096x12288_2_1_01_0_n_n none q w (constant (F := Ideal) S2x4096x12288 .f32 0x00000000#32) (ix3 b s j)
      = ∑ k : Fin 4096, (q (ix3 b s k) * w (ix2 j k) : EReal) := by
  refine (Ideal.matmul_apply _ _ _ _ _ _).trans ?_
  rw [← Equiv.sum_comp (contrEquiv1 dot_S2x4096x4096_S12288x4096_S2x4096x12288_2_1_01_0_n_n 4096 rfl rfl).symm]
  refine (congrArg₂ (fun p q : EReal => p + q) (Ideal.ofBits_zero_f32) (Finset.sum_congr rfl fun k _ => ?_)).trans (zero_add _)
  have hk := contrEquiv1_symm_val dot_S2x4096x4096_S12288x4096_S2x4096x12288_2_1_01_0_n_n 4096 rfl rfl k
  refine congrArg₂ (fun p q : EReal => p * q) (congrArg q ?_) (congrArg w ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk

theorem pay1_apply (b : Fin 2) (s : Fin 4096) (j : Fin 12288) : k0_pay1 q w sc v (ix3 b s j)
    = Spec.entry (fun k => q (ix3 b s k)) (fun k => w (ix2 j k)) (sc (ix3 b s 0)) (v (ix1 j)) := by
  unfold k0_pay1 Spec.entry
  simp only [shapeCast_self]
  rw [mulf_apply, mulf_apply, Layout.bcast_last3, Layout.bcast_lead3, Layout.cast_row3]
  exact congrArg (fun p : EReal => p * sc (ix3 b s 0) * v (ix1 j)) (dot_apply q w b s j)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The call's result: the scaled product. -/
theorem out4_apply (b : Fin 2) (s : Fin 4096) (j : Fin 12288) : out0_4 q w sc v (ix3 b s j)
    = Spec.entry (fun k => q (ix3 b s k)) (fun k => w (ix2 j k)) (sc (ix3 b s 0)) (v (ix1 j)) := by
  unfold out0_4
  rw [View.canon_unit_zero hz3, View.ld_unit_zero hz3, View.ld_unit_zero hz2, View.ld_unit_zero hz3, View.ld_unit_zero hz1]
  exact pay1_apply q w sc v b s j

end Cert.ReferenceIdeal.Block

end
-- ==== Proof.RefRun.lean ====
/-
  What a run of the reference leaves in its four result arrays, as functions of its arguments: the one call's blocks are
  the whole arrays, so its result is its body's, and the three other results are host arrays the call leaves in place.
-/
module

public import proofs.«01_k».proof.Proof.RefBlock
public import proofs.«01_k».proof.Proof.Gen.ReferenceIdeal.Value
public import Idealize.ShloMosaic.Lib.Pipeline.ValueKit.Geometry

@[expose] public section

noncomputable section

namespace Cert.ReferenceIdeal.Run

open Cert.ReferenceIdeal Cert.ReferenceIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-- The two summands. -/
abbrev x : S2x4096x4096.Idx → EReal := m ((c.tc : Thread nD τ).loc main_arg0)
abbrev r : S2x4096x4096.Idx → EReal := m ((c.tc : Thread nD τ).loc main_arg1)
/-- The gain. -/
abbrev g : S4096.Idx → EReal := m ((c.tc : Thread nD τ).loc main_arg2)
/-- The weights and their scales. -/
abbrev w : S12288x4096.Idx → EReal := m ((c.tc : Thread nD τ).loc main_arg3)
abbrev v : S12288.Idx → EReal := m ((c.tc : Thread nD τ).loc main_arg4)

/-! ## What the call finds -/

/-- A normalised row of the host array is the problem's. -/
theorem hrow_eq (b : Fin 2) (s : Fin 4096) : (fun k => Lines.h m c (ix3 b s k)) = Problem.hrow (x m c) (r m c) (g m c) b s :=
  funext fun k => Rows.normed_apply _ b s (Lines.s m c) k

theorem find65 (b : Fin 2) (s k : Fin 4096) : (V m c main_v65 : S2x4096x4096.Idx → EReal) (ix3 b s k) = Spec.code (Problem.hrow (x m c) (r m c) (g m c) b s) k :=
  (congrFun (Lines.V_v65 m c) _).trans ((Rows.codes_row b s (Lines.h m c) k).trans (congrArg (fun h => Spec.code h k) (hrow_eq m c b s)))

theorem find50 (b : Fin 2) (s : Fin 4096) : (V m c main_v50 : S2x4096x1.Idx → EReal) (ix3 b s 0) = Spec.rowScale (Problem.hrow (x m c) (r m c) (g m c) b s) :=
  (congrFun (Lines.V_v50 m c) _).trans ((Rows.scale_row b s (Lines.h m c)).trans (congrArg Spec.rowScale (hrow_eq m c b s)))

/-! ## The blocks are the arrays -/

theorem e0 : ∀ t : Fin cfg0.N, win0_0.index t = ![0, 0, 0] := (by decide +kernel : ∀ t : Fin grid0.N, win0_0.index t = ![0, 0, 0])
theorem e1 : ∀ t : Fin cfg0.N, win0_1.index t = ![0, 0] := (by decide +kernel : ∀ t : Fin grid0.N, win0_1.index t = ![0, 0])
theorem e2 : ∀ t : Fin cfg0.N, win0_2.index t = ![0, 0, 0] := (by decide +kernel : ∀ t : Fin grid0.N, win0_2.index t = ![0, 0, 0])
theorem e3 : ∀ t : Fin cfg0.N, win0_3.index t = ![0] := (by decide +kernel : ∀ t : Fin grid0.N, win0_3.index t = ![0])
theorem e4 : ∀ t : Fin cfg0.N, win0_4.index t = ![0, 0, 0] := (by decide +kernel : ∀ t : Fin grid0.N, win0_4.index t = ![0, 0, 0])

theorem read0 (A : S2x4096x4096.Idx → EReal) (t : Fin cfg0.N) : (((cfg0.win 0).blk t).view.read (Elt Ideal) A : S2x4096x4096.Idx → EReal) = A := by
  funext y
  have h : ((cfg0.win 0).blk t).view.emb y = (y : S2x4096x4096.Idx) := by
    blk_ext [e0] <;> simp
  exact congrArg A h

theorem blk0 (t : Fin cfg0.N) : (iblk m c 0 t : S2x4096x4096.Idx → EReal) = V m c main_v65 := read0 (V m c main_v65) t

theorem read1 (A : S12288x4096.Idx → EReal) (t : Fin cfg0.N) : (((cfg0.win 1).blk t).view.read (Elt Ideal) A : S12288x4096.Idx → EReal) = A := by
  funext y
  have h : ((cfg0.win 1).blk t).view.emb y = (y : S12288x4096.Idx) := by
    blk_ext [e1] <;> simp
  exact congrArg A h

theorem blk1 (t : Fin cfg0.N) : (iblk m c 1 t : S12288x4096.Idx → EReal) = V m c main_arg3 := read1 (V m c main_arg3) t

theorem read2 (A : S2x4096x1.Idx → EReal) (t : Fin cfg0.N) : (((cfg0.win 2).blk t).view.read (Elt Ideal) A : S2x4096x1.Idx → EReal) = A := by
  funext y
  have h : ((cfg0.win 2).blk t).view.emb y = (y : S2x4096x1.Idx) := by
    blk_ext [e2] <;> simp
  exact congrArg A h

theorem blk2 (t : Fin cfg0.N) : (iblk m c 2 t : S2x4096x1.Idx → EReal) = V m c main_v50 := read2 (V m c main_v50) t

theorem read3 (A : S12288.Idx → EReal) (t : Fin cfg0.N) : (((cfg0.win 3).blk t).view.read (Elt Ideal) A : S12288.Idx → EReal) = A := by
  funext y
  have h : ((cfg0.win 3).blk t).view.emb y = (y : S12288.Idx) := by
    blk_ext [e3] <;> simp
  exact congrArg A h

theorem blk3 (t : Fin cfg0.N) : (iblk m c 3 t : S12288.Idx → EReal) = V m c main_arg4 := read3 (V m c main_arg4) t

theorem emb4 (t : Fin cfg0.N) (y : S2x4096x12288.Idx) : ((cfg0.win 4).blk t).view.emb y = (y : S2x4096x12288.Idx) := by
  blk_ext [e4] <;> simp

/-! ## The call's result -/

/-- The scaled product. -/
theorem arr4 : (dats m 0 c).arrAt 4 cfg0.N = Problem.prod (x m c) (r m c) (g m c) (w m c) (v m c) := by
  refine (dats m 0 c).arrAt_eq_of_covers 4 _ (by decide +kernel) fun t hf y => ?_
  refine Eq.trans ?_ (congrArg (Problem.prod (x m c) (r m c) (g m c) (w m c) (v m c)) (emb4 t y)).symm
  obtain ⟨b, s, j, rfl⟩ : ∃ (b : Fin 2) (s : Fin 4096) (j : Fin 12288), y = ix3 b s j := ⟨y 0, y 1, y 2, eq_ix3 y⟩
  blk_simp
  rw [after0_4, blk0, blk1, blk2, blk3]
  refine (Block.out4_apply _ _ _ _ b s j).trans ?_
  have h0 := funext fun k => find65 m c b s k
  have h1 := funext fun k => congrFun (V_main_arg3 m c) (ix2 j k)
  have h2 := find50 m c b s
  have h3 := congrFun (V_main_arg4 m c) (ix1 j)
  exact (congrArg₂ (fun q w => Spec.entry q w _ _) h0 h1).trans (congrArg₂ (fun s v => Spec.entry _ _ s v) h2 h3)

/-! ## The host's results -/

/-- The residual sum. -/
theorem sum_eq : (V m c main_v0 : S2x4096x4096.Idx → EReal) = Problem.sum (x m c) (r m c) := by
  refine (Lines.V_v0 m c).trans (funext fun i => ?_)
  obtain ⟨b, s, k, rfl⟩ : ∃ (b : Fin 2) (s : Fin 4096) (k : Fin 4096), i = ix3 b s k := ⟨i 0, i 1, i 2, eq_ix3 i⟩
  rfl

/-- The codes. -/
theorem codes_eq : (V m c main_v65 : S2x4096x4096.Idx → EReal) = Problem.codes (x m c) (r m c) (g m c) := by
  funext i
  obtain ⟨b, s, k, rfl⟩ : ∃ (b : Fin 2) (s : Fin 4096) (k : Fin 4096), i = ix3 b s k := ⟨i 0, i 1, i 2, eq_ix3 i⟩
  exact find65 m c b s k

/-- The scales. -/
theorem scales_eq : (V m c main_v50 : S2x4096x1.Idx → EReal) = Problem.scales (x m c) (r m c) (g m c) := by
  funext i
  obtain ⟨b, s, z, rfl⟩ : ∃ (b : Fin 2) (s : Fin 4096) (z : Fin 1), i = ix3 b s z := ⟨i 0, i 1, i 2, eq_ix3 i⟩
  obtain rfl : z = 0 := Subsingleton.elim _ _
  exact find50 m c b s

/-! ## The run -/

/-- From any memory with zero counters, every weakly fair execution of the reference terminates without a fault, with the
    four results the problem's and the arguments as launched. -/
theorem run : θ_run defs (onTc (τ := τ) (main (F := Ideal))) ⟨m, fun _ => 0, ρ⟩ (fun q => ∀ c : Dev nD,
      q.2.mem ((c.tc : Thread nD τ).loc main_v66) = Problem.prod (x m c) (r m c) (g m c) (w m c) (v m c)
      ∧ q.2.mem ((c.tc : Thread nD τ).loc main_v0) = Problem.sum (x m c) (r m c)
      ∧ q.2.mem ((c.tc : Thread nD τ).loc main_v65) = Problem.codes (x m c) (r m c) (g m c)
      ∧ q.2.mem ((c.tc : Thread nD τ).loc main_v50) = Problem.scales (x m c) (r m c) (g m c)
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)
      ∧ q.2.mem ((c.tc : Thread nD τ).loc main_arg4) = m ((c.tc : Thread nD τ).loc main_arg4)) :=
  (θ_run defs _ _).mono (fun q h c => ⟨(Value.post4 m q h c).trans (arr4 m c),
      ((h c).2 main_v0 (Pipeline.mem_restRefs_of main_v0 (by decide) (by decide))).trans (sum_eq m c),
      ((h c).1 0).trans (((dats m 0 c).arrAt_in 0 rfl _).trans ((A_eq m c 0).trans (codes_eq m c))),
      ((h c).1 2).trans (((dats m 0 c).arrAt_in 2 rfl _).trans ((A_eq m c 2).trans (scales_eq m c))),
      Value.kept_main_arg0 m q h c,
      Value.kept_main_arg1 m q h c,
      Value.kept_main_arg2 m q h c,
      Value.kept_main_arg3 m q h c,
      Value.kept_main_arg4 m q h c⟩)
    (run_main m ρ)

end Cert.ReferenceIdeal.Run

end
-- ==== Proof.Equation.lean ====
/-
  The value claim: from arguments that agree, the kernel and the reference both leave the problem's four results.
-/
module

public import proofs.«01_k».proof.Defs
public import proofs.«01_k».proof.Proof.KernelRun
public import proofs.«01_k».proof.Proof.KernelValue
public import proofs.«01_k».proof.Proof.RefRun

@[expose] public section

noncomputable section

namespace Cert.Equation

open Idealize.ShloMosaic Idealize.ShloMosaic.TcCoe Idealize.SL.Sem

/-- A run of the kernel leaves the problem's four results of its arguments. -/
theorem kernel (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ (fun q => ∀ c : Dev KernelIdeal.nD,
      q.2.mem ((c.tc : Thread KernelIdeal.nD KernelIdeal.τ).loc KernelIdeal.main_v6)
          = Problem.prod (KernelIdeal.Value.x m c) (KernelIdeal.Value.r m c) (KernelIdeal.Value.g m c) (KernelIdeal.Value.w m c) (KernelIdeal.Value.v m c)
      ∧ q.2.mem ((c.tc : Thread KernelIdeal.nD KernelIdeal.τ).loc KernelIdeal.main_v7) = Problem.sum (KernelIdeal.Value.x m c) (KernelIdeal.Value.r m c)
      ∧ q.2.mem ((c.tc : Thread KernelIdeal.nD KernelIdeal.τ).loc KernelIdeal.main_v8)
          = Problem.codes (KernelIdeal.Value.x m c) (KernelIdeal.Value.r m c) (KernelIdeal.Value.g m c)
      ∧ q.2.mem ((c.tc : Thread KernelIdeal.nD KernelIdeal.τ).loc KernelIdeal.main_v9)
          = Problem.scales (KernelIdeal.Value.x m c) (KernelIdeal.Value.r m c) (KernelIdeal.Value.g m c)
      ∧ q.2.mem ((c.tc : Thread KernelIdeal.nD KernelIdeal.τ).loc KernelIdeal.main_arg0) = m ((c.tc : Thread KernelIdeal.nD KernelIdeal.τ).loc KernelIdeal.main_arg0)
      ∧ q.2.mem ((c.tc : Thread KernelIdeal.nD KernelIdeal.τ).loc KernelIdeal.main_arg1) = m ((c.tc : Thread KernelIdeal.nD KernelIdeal.τ).loc KernelIdeal.main_arg1)
      ∧ q.2.mem ((c.tc : Thread KernelIdeal.nD KernelIdeal.τ).loc KernelIdeal.main_arg2) = m ((c.tc : Thread KernelIdeal.nD KernelIdeal.τ).loc KernelIdeal.main_arg2)
      ∧ q.2.mem ((c.tc : Thread KernelIdeal.nD KernelIdeal.τ).loc KernelIdeal.main_arg3) = m ((c.tc : Thread KernelIdeal.nD KernelIdeal.τ).loc KernelIdeal.main_arg3)
      ∧ q.2.mem ((c.tc : Thread KernelIdeal.nD KernelIdeal.τ).loc KernelIdeal.main_arg4) = m ((c.tc : Thread KernelIdeal.nD KernelIdeal.τ).loc KernelIdeal.main_arg4)) :=
  (θ_run KernelIdeal.defs _ _).mono (fun q h c =>
    ⟨(h c).1.trans (KernelIdeal.Value.res6 m ρ c), (h c).2.1.trans (KernelIdeal.Value.res7 m ρ c),
      (h c).2.2.1.trans (KernelIdeal.Value.res8 m ρ c), (h c).2.2.2.1.trans (KernelIdeal.Value.res9 m ρ c), (h c).2.2.2.2⟩)
    (KernelIdeal.Run.run m ρ)

/-- Arguments that agree give the reference the kernel's results. -/
theorem algebraic : @Cert.algebraic_KernelIdeal_ReferenceIdeal KernelIdeal.Gen.facts ReferenceIdeal.Gen.facts := by
  intro m g m' g' _ hm
  refine ⟨fun c => Problem.prod (KernelIdeal.Value.x m c) (KernelIdeal.Value.r m c) (KernelIdeal.Value.g m c) (KernelIdeal.Value.w m c) (KernelIdeal.Value.v m c),
    fun c => Problem.sum (KernelIdeal.Value.x m c) (KernelIdeal.Value.r m c),
    fun c => Problem.codes (KernelIdeal.Value.x m c) (KernelIdeal.Value.r m c) (KernelIdeal.Value.g m c),
    fun c => Problem.scales (KernelIdeal.Value.x m c) (KernelIdeal.Value.r m c) (KernelIdeal.Value.g m c), kernel m g, ?_⟩
  refine (θ_run ReferenceIdeal.defs _ _).mono (fun q h c => ?_) (ReferenceIdeal.Run.run m' g')
  obtain ⟨h0, h1, h2, h3, h4⟩ := hm c
  have hx : ReferenceIdeal.Run.x m' c = KernelIdeal.Value.x m c := h0
  have hr : ReferenceIdeal.Run.r m' c = KernelIdeal.Value.r m c := h1
  have hg : ReferenceIdeal.Run.g m' c = KernelIdeal.Value.g m c := h2
  have hw : ReferenceIdeal.Run.w m' c = KernelIdeal.Value.w m c := h3
  have hv : ReferenceIdeal.Run.v m' c = KernelIdeal.Value.v m c := h4
  obtain ⟨r0, r1, r2, r3, hargs⟩ := h c
  refine ⟨r0.trans ?_, r1.trans ?_, r2.trans ?_, r3.trans ?_, hargs⟩
  · exact (congrArg₂ (fun a b => Problem.prod a b _ _ _) hx hr).trans
      ((congrArg₂ (fun a b => Problem.prod _ _ a b _) hg hw).trans (congrArg (fun a => Problem.prod _ _ _ _ a) hv))
  · exact congrArg₂ Problem.sum hx hr
  · exact (congrArg₂ (fun a b => Problem.codes a b _) hx hr).trans (congrArg (fun a => Problem.codes _ _ a) hg)
  · exact (congrArg₂ (fun a b => Problem.scales a b _) hx hr).trans (congrArg (fun a => Problem.scales _ _ a) hg)

end Cert.Equation

end
-- ==== Proof.lean ====
/-
  The five claims put together: the three frames, the kernel's ideal reading, and the equation with the reference on all
  four results.
-/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.Equation

@[expose] public section

/-- Everything the certificate claims. -/
theorem Cert.Proof.claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, fun m ρ _ => Cert.ReferenceIdeal.Gen.frame m ρ, trivial, Cert.Equation.algebraic⟩
